-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_stays_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swaps_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swaps_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x512x512 : Shape := ⟨3, ![1, 512, 512]⟩
abbrev S2 : Shape := ⟨1, ![2]⟩
abbrev S4 : Shape := ⟨1, ![4]⟩
abbrev S1 : Shape := ⟨1, ![1]⟩
abbrev S_ : Shape := ⟨0, ![]⟩
abbrev S1x128x512 : Shape := ⟨3, ![1, 128, 512]⟩

abbrev nBuf : Space → Nat
  | .hbm => 3
  | .vmem => 4
  | .smem => 1
  | _ => 0

abbrev bufTy : (tb : Table) → Fin (tcTables nBuf tb) → BufTy
  | .hbm, ⟨0, _⟩ => ⟨S1x512x512, .f32⟩
  | .hbm, ⟨1, _⟩ => ⟨S2, .i32⟩
  | .hbm, ⟨2, _⟩ => ⟨S1x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .bf16⟩
  | .local _ .vmem, ⟨3, _⟩ => ⟨S1x512x512, .bf16⟩
  | .local _ .smem, ⟨0, _⟩ => ⟨S2, .i32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : Index := Scalar.indexCast v8
  ![v9.toNat]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v13 : BitVec 32 := Scalar.muli v2 c4_i32_5
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v15 : BitVec 32 := Scalar.muli v5 c2_i32_6
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_3 v8
  let c1_i32_7 : BitVec 32 := 1#32
  let v17 : BitVec 32 := Scalar.muli v12 c1_i32_7
  let v18 : BitVec 32 := Scalar.addi v16 v17
  v18.toNat
def k0_dev2 (d0 : Dev nD) (v10 : BitVec 32) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v31 : BitVec 32 := Scalar.muli v2 c4_i32_18
  let v32 : BitVec 32 := Scalar.addi c0_i32_19 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v33 : BitVec 32 := Scalar.muli v5 c2_i32_20
  let v34 : BitVec 32 := Scalar.addi v32 v33
  let c1_i32_21 : BitVec 32 := 1#32
  let v35 : BitVec 32 := Scalar.muli v10 c1_i32_21
  let v36 : BitVec 32 := Scalar.addi v34 v35
  v36.toNat
def k0_cond2 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 1 := Scalar.cmpi .ne v10 v8
  let v23 : BitVec 32 := Scalar.extui v22
  let c0_i32_10 : BitVec 32 := 0#32
  let v24 : BitVec 1 := Scalar.cmpi .ne v23 c0_i32_10
  v24

def k0_dev3 (d0 : Dev nD) (v10 : BitVec 32) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v49 : BitVec 32 := Scalar.muli v2 c4_i32_35
  let v50 : BitVec 32 := Scalar.addi c0_i32_36 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v51 : BitVec 32 := Scalar.muli v5 c2_i32_37
  let v52 : BitVec 32 := Scalar.addi v50 v51
  let c1_i32_38 : BitVec 32 := 1#32
  let v53 : BitVec 32 := Scalar.muli v10 c1_i32_38
  let v54 : BitVec 32 := Scalar.addi v52 v53
  v54.toNat
def k0_dev4 (d0 : Dev nD) (v10 : BitVec 32) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v67 : BitVec 32 := Scalar.muli v2 c4_i32_51
  let v68 : BitVec 32 := Scalar.addi c0_i32_52 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v69 : BitVec 32 := Scalar.muli v5 c2_i32_53
  let v70 : BitVec 32 := Scalar.addi v68 v69
  let c1_i32_54 : BitVec 32 := 1#32
  let v71 : BitVec 32 := Scalar.muli v10 c1_i32_54
  let v72 : BitVec 32 := Scalar.addi v70 v71
  v72.toNat
def k0_dev5 (d0 : Dev nD) (v10 : BitVec 32) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v85 : BitVec 32 := Scalar.muli v2 c4_i32_66
  let v86 : BitVec 32 := Scalar.addi c0_i32_67 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v87 : BitVec 32 := Scalar.muli v5 c2_i32_68
  let v88 : BitVec 32 := Scalar.addi v86 v87
  let c1_i32_69 : BitVec 32 := 1#32
  let v89 : BitVec 32 := Scalar.muli v10 c1_i32_69
  let v90 : BitVec 32 := Scalar.addi v88 v89
  v90.toNat

def k0_chk1 (d0 : Dev nD) (v10 : BitVec 32) : Prop :=
  (∀ (k0_h2 : k0_cond2 d0 v10 = 1#1), (k0_dev2 d0 v10) < nD) ∧
  (∀ (k0_h2 : k0_cond2 d0 v10 = 1#1), (k0_dev3 d0 v10) < nD) ∧
  (∀ (k0_h2 : k0_cond2 d0 v10 = 1#1), (k0_dev4 d0 v10) < nD) ∧
  (∀ (k0_h2 : k0_cond2 d0 v10 = 1#1), (k0_dev5 d0 v10) < nD)
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1.1 k0_h2
theorem k0_dev3_lt : ∀ (d0 : Dev nD) (v10 : BitVec 32) (k0_hw1 : k0_chk1 d0 v10), ∀ (k0_h2 : k0_cond2 d0 v10 = 1#1), (k0_dev3 d0 v10) < nD := fun d0 v10 k0_hw1 k0_h2 => k0_hw1.2.1 k0_h2
theorem k0_dev4_lt : ∀ (d0 : Dev nD) (v10 : BitVec 32) (k0_hw1 : k0_chk1 d0 v10), ∀ (k0_h2 : k0_cond2 d0 v10 = 1#1), (k0_dev4 d0 v10) < nD := fun d0 v10 k0_hw1 k0_h2 => k0_hw1.2.2.1 k0_h2
theorem k0_dev5_lt : ∀ (d0 : Dev nD) (v10 : BitVec 32) (k0_hw1 : k0_chk1 d0 v10), ∀ (k0_h2 : k0_cond2 d0 v10 = 1#1), (k0_dev5 d0 v10) < nD := fun d0 v10 k0_hw1 k0_h2 => k0_hw1.2.2.2 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Cells.lean ====
/-
# The cells, the chunks and the contents

The devices are paired along the mesh axis `z`: the logical ids of a pair differ in their last bit. Under a permutation
that exchanges the two rows (`sw = true`) the devices of a pair send one another their blocks, rounded to bfloat16, in
four chunks of 128 rows, each chunk with a send and a receive semaphore of its own; under the permutation that keeps
them (`sw = false`) each device copies its own block. Both devices first shake hands on the runtime's barrier semaphore.
This file names the buffers, the semaphores and the chunks, and says what each buffer holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Scf
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The pairs of devices -/

set_option backward.proofsInPublic true in
/-- The other device of `c`'s pair: the last bit of the logical id flipped. -/
def peer (c : Dev nD) : Dev nD := ⟨(c.val + 1) - 2 * (c.val % 2), by have : c.val < 8 := c.isLt; show _ < 8; omega⟩

theorem peer_peer (c : Dev nD) : peer (peer c) = c := by revert c; decide

/-- Taking the other device of each pair, as a permutation of the devices. -/
def swapPairs : Dev nD ≃ Dev nD := ⟨peer, peer, peer_peer, peer_peer⟩

theorem eq_peer_iff {a b : Dev nD} : Iff (peer a = b) (a = peer b) :=
  ⟨fun h => by rw [← h, peer_peer], fun h => by rw [h, peer_peer]⟩

/-! ## The entry of the permutation a device reads, and what its arithmetic makes of it -/

/-- Entry `n` of the permutation: `1 - n` when the rows are exchanged, `n` when they are kept. -/
def entry (sw : Bool) (n : ℕ) : BitVec 32 := BitVec.ofNat 32 (if sw then 1 - n else n)

/-- Position `z` of the permutation, as the body's access computes it. -/
def pos (c : Dev nD) : S2.Idx := fun a => ⟨0 + c.val % 2, by fin_cases a; show 0 + c.val % 2 < 2; omega⟩

/-- The row number of device `c`'s own block, as the body computes it. -/
abbrev ownRow (c : Dev nD) : BitVec 32 := Scalar.remsi (Scalar.divsi (Dev.word c) 1#32) 2#32

theorem dev1_eq (c : Dev nD) : (⟨k0_dev1 c, k0_dev1_lt c⟩ : Dev nD) = peer c := by
  refine Fin.ext ((k0_dev1_eq c).trans ?_); revert c; decide

/-- The rows kept: the body takes its first branch, the copy, -/
theorem kept_first (c : Dev nD) : Scalar.cmpi .ne (Scalar.extui (Scalar.cmpi .eq (entry false (c.val % 2)) (ownRow c)) : BitVec 32) 0#32 = 1#1 := by
  revert c; decide
/-- and not the second, the exchange. -/
theorem kept_second (c : Dev nD) : ¬ k0_cond2 c (entry false (c.val % 2)) = 1#1 := by revert c; decide
/-- The rows exchanged: the other way round. -/
theorem swapped_first (c : Dev nD) : ¬ Scalar.cmpi .ne (Scalar.extui (Scalar.cmpi .eq (entry true (c.val % 2)) (ownRow c)) : BitVec 32) 0#32 = 1#1 := by
  revert c; decide
theorem swapped_second (c : Dev nD) : k0_cond2 c (entry true (c.val % 2)) = 1#1 := by revert c; decide

/-- The four transfers of an exchange are addressed to the other device of the pair. -/
theorem devs_eq (c : Dev nD) : k0_dev2 c (entry true (c.val % 2)) = (peer c).val ∧ k0_dev3 c (entry true (c.val % 2)) = (peer c).val
    ∧ k0_dev4 c (entry true (c.val % 2)) = (peer c).val ∧ k0_dev5 c (entry true (c.val % 2)) = (peer c).val := by
  revert c; decide

/-- The body's check of the entry it read passes: what it addresses are devices of the mesh. -/
theorem entry_chk (sw : Bool) (c : Dev nD) : k0_chk1 c (entry sw (c.val % 2)) := by
  cases sw
  · exact ⟨fun h => absurd h (kept_second c), fun h => absurd h (kept_second c), fun h => absurd h (kept_second c), fun h => absurd h (kept_second c)⟩
  · obtain ⟨h2, h3, h4, h5⟩ := devs_eq c
    exact ⟨fun _ => h2.trans_lt (peer c).isLt, fun _ => h3.trans_lt (peer c).isLt, fun _ => h4.trans_lt (peer c).isLt, fun _ => h5.trans_lt (peer c).isLt⟩

/-! ## The chunks -/

theorem chunk_inb (k : Fin 4) : ∀ a, ![0, 128 * k.val, 0] a + S1x128x512.size a ≤ S1x512x512.size a := by revert k; decide

/-- Chunk `k` of a block: its rows `128 k` to `128 k + 127`. -/
abbrev chunk (k : Fin 4) : Rect S1x512x512 := Rect.unit (s := S1x512x512) ![0, 128 * k.val, 0] S1x128x512.size (chunk_inb k)

/-- The four chunks as the body writes them. -/
theorem chunk_0 : Rect.unit (s := S1x512x512) ![0, 0, 0] S1x128x512.size inb_S1x512x512_S1x128x512_0_0_0 = chunk 0 := rfl
theorem chunk_1 : Rect.unit (s := S1x512x512) ![0, 128, 0] S1x128x512.size inb_S1x512x512_S1x128x512_0_128_0 = chunk 1 := rfl
theorem chunk_2 : Rect.unit (s := S1x512x512) ![0, 256, 0] S1x128x512.size inb_S1x512x512_S1x128x512_0_256_0 = chunk 2 := rfl
theorem chunk_3 : Rect.unit (s := S1x512x512) ![0, 384, 0] S1x128x512.size inb_S1x512x512_S1x128x512_0_384_0 = chunk 3 := rfl

theorem mem_chunk (k : Fin 4) (i : S1x512x512.Idx) : Iff (i ∈ (chunk k).set) ((i 1).val / 128 = k.val) := by
  have h0 : (i 0).val < 1 := (i 0).isLt
  have h1 : (i 1).val < 512 := (i 1).isLt
  have h2 : (i 2).val < 512 := (i 2).isLt
  rw [Rect.mem_set_unit]
  constructor
  · intro h
    have := h 1
    simp at this
    omega
  · intro h a
    fin_cases a
    · simp; exact Nat.lt_one_iff.mp h0
    · simp; omega
    · simp; exact h2

theorem chunk_disjoint (k k' : Fin 4) (h : k ≠ k') : Disjoint (chunk k).set (chunk k').set :=
  Finset.disjoint_left.mpr fun i hi hi' => h (Fin.ext (((mem_chunk k i).mp hi).symm.trans ((mem_chunk k' i).mp hi')))

theorem chunk_cover : (Finset.univ : Finset (Fin 4)).biUnion (fun k => (chunk k).set) = Finset.univ := by
  refine Finset.eq_univ_of_forall fun i => Finset.mem_biUnion.mpr ?_
  have h1 : (i 1).val < 512 := (i 1).isLt
  exact ⟨⟨(i 1).val / 128, by omega⟩, Finset.mem_univ _, (mem_chunk _ i).mpr rfl⟩

/-! ## The buffers -/

/-- The staged permutation, the staged block, the result, the buffer a device sends from and the one it receives in. -/
abbrev tM : Memref sig .tc .smem S2 .i32 := Memref.whole cc0_stg0_0
abbrev xM : Memref sig .tc .vmem S1x512x512 .f32 := Memref.whole cc0_stg1_0
abbrev oM : Memref sig .tc .vmem S1x512x512 .f32 := Memref.whole cc0_stg2_0
abbrev sM : Memref sig .tc .vmem S1x512x512 .bf16 := Memref.whole cc0_scratch0
abbrev rM : Memref sig .tc .vmem S1x512x512 .bf16 := Memref.whole cc0_scratch1

/-- Chunk `k` of the sending and of the receiving buffer, as the transfers name them. -/
abbrev sC (k : Fin 4) : Memref sig .tc .vmem S1x128x512 .bf16 := sM.slice (chunk k) (fun _ => rfl)
abbrev rC (k : Fin 4) : Memref sig .tc .vmem S1x128x512 .bf16 := rM.slice (chunk k) (fun _ => rfl)

/-- What a transfer of one chunk counts on its semaphores. -/
abbrev N : ℕ := (rC 0).view.dmaCredit
theorem N_pos : 0 < N := View.dmaCredit_pos _ (by decide)
theorem credit_r (k : Fin 4) : (rC k).view.dmaCredit = N := rfl
theorem credit_s (k : Fin 4) : (sC k).view.dmaCredit = N := rfl

/-! ## The semaphores -/

abbrev barS : Sem sig := (SemArray.scalar (sig.barrier 0 rfl) : Sems sig S_).sem
/-- Chunk `k`'s send and receive semaphores. -/
def sendS (k : Fin 4) : DmaSem sig := ⟨3 + k.val, by have := k.isLt; show _ < 11; omega⟩
def recvS (k : Fin 4) : DmaSem sig := ⟨7 + k.val, by have := k.isLt; show _ < 11; omega⟩

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- The kernel's own semaphores: chunk `k`'s send (`false`) and receive (`true`); -/
abbrev osem : Bool × Fin 4 → SemLoc sig | (false, k) => .dma (sendS k) | (true, k) => .dma (recvS k)
/-- with the barrier semaphore (`none`), all a device's semaphores of this protocol. -/
abbrev csem : Option (Bool × Fin 4) → SemLoc sig | none => .reg barS | some i => osem i
abbrev kcell (ci : Dev nD × Option (Bool × Fin 4)) : GSem nD τ sig := ((ci.1 : Thread nD τ), csem ci.2)

/-- What a semaphore is for in this protocol: `some none` the barrier, `some (some i)` one of the kernel's own,
    `none` a semaphore of the staging. -/
def role : SemLoc sig → Option (Option (Bool × Fin 4))
  | .reg _ => some none
  | .dma q => if h : 3 ≤ q.val ∧ q.val < 7 then some (some (false, ⟨q.val - 3, by omega⟩))
      else if h : 7 ≤ q.val ∧ q.val < 11 then some (some (true, ⟨q.val - 7, by omega⟩)) else none

theorem role_csem (i : Option (Bool × Fin 4)) : role (csem i) = some i := by revert i; decide
theorem csem_injective : Function.Injective csem := fun i j h => Option.some.inj (by rw [← role_csem i, h, role_csem])
theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The permutation on device `c`. -/
abbrev piOf (c : Dev nD) : IVec S2 32 := m ((c : Thread nD τ).loc main_arg1)

/-- What is asked of the launch memory: each device's copy of the permutation has, at that device's place on the
    axis `z`, the entry of the exchange (`sw = true`) or of the identity (`sw = false`). -/
def PreOK (sw : Bool) : Prop := ∀ c : Dev nD, piOf m c (pos c) = entry sw (c.val % 2)

/-- The permutation and the block as staged. -/
def tstg (c : Dev nD) : (cc0_stg0_0 : Ref sig .tc).ty.Contents (Elt F) :=
  (win0_0.blk (0 : Fin 1)).view.read (Elt F) ((s₀ m ρ).mem ((c : Thread nD τ).loc main_arg1))
def xstg (c : Dev nD) : (cc0_stg1_0 : Ref sig .tc).ty.Contents (Elt F) :=
  (win0_1.blk (0 : Fin 1)).view.read (Elt F) ((s₀ m ρ).mem ((c : Thread nD τ).loc main_arg0))

/-- Device `c`'s block rounded to bfloat16: what it sends. -/
def half (c : Dev nD) : FVec F S1x512x512 .bf16 := truncf .bf16 (xstg m ρ c : FVec F S1x512x512 .f32) bitsLt_bf16_f32

/-- The result on device `c`: the other device's block rounded to bfloat16 and back, or its own block. -/
def outAt (sw : Bool) (c : Dev nD) : FVec F S1x512x512 .f32 :=
  if sw then extf .f32 (half m ρ (peer c)) bitsLt_bf16_f32 else (xstg m ρ c : FVec F S1x512x512 .f32)

/-- The entry the body loads. -/
abbrev rPos (c : Dev nD) : Rect S2 := Rect.unit (s := S2) (k0_off1 c) S1.size (k0_off1_inb c)
abbrev loaded (c : Dev nD) (ts : (cc0_stg0_0 : Ref sig .tc).ty.Contents (Elt F)) : BitVec 32 :=
  (tM.access (rPos c) : View sig .tc _ _ _).read (Elt F) ts (Shape.Idx.first (s := S1) (numel1_S1.symm ▸ Nat.one_pos))

omit [FloatOps F] in
theorem loaded_tstg (c : Dev nD) : loaded c (tstg m ρ c) = piOf m c (pos c) := by
  show m ((c : Thread nD τ).loc main_arg1) _ = _
  refine congrArg _ (funext fun a => Fin.ext ?_)
  fin_cases a; fin_cases c <;> rfl

end Cert.Exchange

end
-- ==== Proof.Schedule.lean ====
/-
# The protocol

One round on every semaphore. A device's barrier semaphore is paid one unit by the other device of its pair, which
hands over its own receiving buffer, chunk by chunk, when rows are exchanged and nothing when they are kept. In an
exchange, chunk `k`'s receive semaphore is paid by the other device's transfer, handing over the chunk as it landed,
and chunk `k`'s send semaphore by the device's own transfer, handing the sent chunk back. When the rows are kept the
send and receive semaphores are never paid.
-/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg) (sw : Bool)

/-! ## Chunks held -/

/-- Chunk `k` of device `c`'s sending buffer, of its receiving buffer and of its result, at contents `f`. -/
def sPts (c : Dev nD) (k : Fin 4) (f : Buf (Elt F) ((c : Thread nD τ).loc cc0_scratch0)) : sProp 𝕄 :=
  (sM.access (chunk k)).loc (c : Thread nD τ) ↦[(sM.access (chunk k)).set]{fullShare} f
def rPts (c : Dev nD) (k : Fin 4) (f : Buf (Elt F) ((c : Thread nD τ).loc cc0_scratch1)) : sProp 𝕄 :=
  (rM.access (chunk k)).loc (c : Thread nD τ) ↦[(rM.access (chunk k)).set]{fullShare} f
def oPts (c : Dev nD) (k : Fin 4) (f : Buf (Elt F) ((c : Thread nD τ).loc cc0_stg2_0)) : sProp 𝕄 :=
  (oM.access (chunk k)).loc (c : Thread nD τ) ↦[(oM.access (chunk k)).set]{fullShare} f

omit [FloatOps F] in
instance sPts_storable (c : Dev nD) (k : Fin 4) (f) : BI.Storable (upEmb : UEmb _ 𝕄) (sPts (F := F) c k f) := by unfold sPts; infer_instance
omit [FloatOps F] in
instance rPts_storable (c : Dev nD) (k : Fin 4) (f) : BI.Storable (upEmb : UEmb _ 𝕄) (rPts (F := F) c k f) := by unfold rPts; infer_instance

omit [FloatOps F] in
/-- A buffer held whole is held rectangle by rectangle, for rectangles that cut it. -/
theorem held_by_rects (c : Dev nD) (b : Ref sig .tc) (rs : Fin 4 → Rect b.ty.shape) (hd : ∀ k k', k ≠ k' → Disjoint (rs k).set (rs k').set)
    (hc : Finset.univ.biUnion (fun k => (rs k).set) = Finset.univ) (f : Buf (Elt F) ((c : Thread nD τ).loc b)) :
    (((c : Thread nD τ).loc b) ↦{fullShare} f : sProp 𝕄)
      = bigSep Finset.univ fun k => ((View.whole b).slice (rs k)).loc (c : Thread nD τ) ↦[((View.whole b).slice (rs k)).set]{fullShare} f := by
  have hs (k : Fin 4) : ((View.whole b).slice (rs k)).set = (rs k).set := View.set_slice_whole b (rs k)
  exact Ring.pointsTo_blocks (ℓ := (c : Thread nD τ).loc b) (fun k => ((View.whole b).slice (rs k)).set)
    (fun k k' h => (hs k).symm ▸ (hs k').symm ▸ hd k k' h) ((Finset.biUnion_congr rfl fun k _ => hs k).trans hc) f

omit [FloatOps F] in
theorem sPts_all (c : Dev nD) (f : Buf (Elt F) ((c : Thread nD τ).loc cc0_scratch0)) :
    (((c : Thread nD τ).loc cc0_scratch0) ↦{fullShare} f : sProp 𝕄) = bigSep Finset.univ fun k => sPts c k f :=
  held_by_rects c cc0_scratch0 chunk chunk_disjoint chunk_cover f
omit [FloatOps F] in
theorem rPts_all (c : Dev nD) (f : Buf (Elt F) ((c : Thread nD τ).loc cc0_scratch1)) :
    (((c : Thread nD τ).loc cc0_scratch1) ↦{fullShare} f : sProp 𝕄) = bigSep Finset.univ fun k => rPts c k f :=
  held_by_rects c cc0_scratch1 chunk chunk_disjoint chunk_cover f
omit [FloatOps F] in
theorem oPts_all (c : Dev nD) (f : Buf (Elt F) ((c : Thread nD τ).loc cc0_stg2_0)) :
    (((c : Thread nD τ).loc cc0_stg2_0) ↦{fullShare} f : sProp 𝕄) = bigSep Finset.univ fun k => oPts c k f :=
  held_by_rects c cc0_stg2_0 chunk chunk_disjoint chunk_cover f

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The schedule -/

/-- Which semaphores are paid: the barrier, and in an exchange the kernel's own. -/
def live : Option (Option (Bool × Fin 4)) → Bool
  | none => false
  | some none => true
  | some (some _) => sw

/-- What the other device hands over at the barrier of device `c` in an exchange: its receiving buffer. -/
def barPay (c : Dev nD) : sProp 𝕄 := if sw then bigSep Finset.univ fun k => iprop(∃ f, rPts (peer c) k f) else iprop(emp)

/-- What a semaphore's payment hands device `c`. -/
def pays (c : Dev nD) : Option (Option (Bool × Fin 4)) → sProp 𝕄
  | some none => barPay sw c
  | some (some (false, k)) => sPts c k (half m ρ c)
  | some (some (true, k)) => rPts c k (half m ρ (peer c))
  | none => iprop(emp)

def exRd : Rounds.Schedule (GSem nD τ sig) Unit 𝕄 where
  duties g r := if r = 0 ∧ g.1.2 = .tc ∧ live sw (role g.2) = true then {()} else ∅
  unitless _ := False
  amount g _ _ := if role g.2 = some none then 1 else N
  payload g _ _ := pays m ρ sw g.1.1 (role g.2)
  amount_pos g _ _ _ := by
    split
    · exact Nat.one_pos
    · exact N_pos

instance barPay_storable (c : Dev nD) : BI.Storable (upEmb : UEmb _ 𝕄) (barPay (F := F) sw c) := by
  unfold barPay; split <;> infer_instance
instance pays_storable (c : Dev nD) (o) : BI.Storable (upEmb : UEmb _ 𝕄) (pays (F := F) m ρ sw c o) := by
  unfold pays; split <;> infer_instance
instance exRd_payload_storable (g : GSem nD τ sig) (r : ℕ) (d : Unit) :
    BI.Storable (upEmb : UEmb _ 𝕄) ((exRd (F := F) m ρ sw).payload g r d) := pays_storable m ρ sw g.1.1 (role g.2)

theorem duties_at (c : Dev nD) (i : Option (Bool × Fin 4)) :
    (exRd (F := F) m ρ sw).duties (kcell (c, i)) 0 = if live sw (some i) = true then {()} else ∅ := by
  dsimp only [exRd]; rw [role_csem]
  exact if_congr ⟨fun h => h.2.2, fun h => ⟨rfl, rfl, h⟩⟩ rfl rfl
theorem duties_live (c : Dev nD) (i : Option (Bool × Fin 4)) (h : live sw (some i) = true) :
    (exRd (F := F) m ρ sw).duties (kcell (c, i)) 0 = {()} := by rw [duties_at, if_pos h]
theorem duties_later (g : GSem nD τ sig) : ∀ r, 1 ≤ r → (exRd (F := F) m ρ sw).duties g r = ∅ :=
  fun r hr => by dsimp only [exRd]; exact if_neg fun h => by omega
/-- A semaphore that is not paid has no duty in any round. -/
theorem duties_idle (c : Dev nD) (i : Option (Bool × Fin 4)) (h : live sw (some i) = false) :
    ∀ r, 0 ≤ r → (exRd (F := F) m ρ sw).duties (kcell (c, i)) r = ∅ := fun r _ => by
  dsimp only [exRd]; rw [role_csem]; exact if_neg fun h' => by rw [h] at h'; exact Bool.false_ne_true h'.2.2

/-- The barrier counts one unit, a transfer's semaphores the chunk's credit. -/
def units : Option (Bool × Fin 4) → ℕ | none => 1 | some _ => N
theorem amount_at (c : Dev nD) (i : Option (Bool × Fin 4)) (d : Unit) : (exRd (F := F) m ρ sw).amount (kcell (c, i)) 0 d = units i := by
  dsimp only [exRd]; rw [role_csem]
  cases i with
  | none => exact if_pos rfl
  | some i => exact if_neg fun h => by cases h
theorem expect_at (c : Dev nD) (i : Option (Bool × Fin 4)) (h : live sw (some i) = true) :
    (exRd (F := F) m ρ sw).expect (kcell (c, i)) 0 = units i := by
  unfold Schedule.expect Schedule.amountOf; rw [duties_live m ρ sw c i h, Finset.sum_singleton, amount_at]
theorem payload_at (c : Dev nD) (i : Option (Bool × Fin 4)) (d : Unit) :
    (exRd (F := F) m ρ sw).payload (kcell (c, i)) 0 d = pays m ρ sw c (some i) := by dsimp only [exRd]; rw [role_csem]
/-- A live semaphore's round, no payment taken yet, holds its one payload. -/
theorem rest_at (c : Dev nD) (i : Option (Bool × Fin 4)) (h : live sw (some i) = true) :
    bigSep ((exRd (F := F) m ρ sw).duties (kcell (c, i)) 0 \ ∅) (fun d => (exRd (F := F) m ρ sw).payload (kcell (c, i)) 0 d) = pays m ρ sw c (some i) := by
  rw [Finset.sdiff_empty, duties_live m ρ sw c i h, bigSep_singleton, payload_at]

/-! ## What each core owes -/

/-- The receive credits of the other device's last `n` chunks. -/
def owe (c : Dev nD) : ℕ → CellTallies nD τ sig Unit
  | 0 => 0
  | n + 1 => owe c n + tallyAt (recvCell (peer c) (Fin.ofNat 4 (3 - n))) () N

/-- What a device owes after its barrier signal: in an exchange, the credits of its four transfers; -/
def owed (c : Dev nD) : CellTallies nD τ sig Unit := if sw then owe c 4 else 0
/-- and at launch: that and the other device's barrier unit. -/
def O₀ (c : Dev nD) : CellTallies nD τ sig Unit := owed sw c + tallyAt (barCell (peer c)) () 1

theorem owe_pos {c : Dev nD} {g : GSem nD τ sig} {u : Unit} : ∀ n, 0 < owe c n g u → ∃ k, g = recvCell (peer c) k
  | 0, h => absurd h (Nat.lt_irrefl 0)
  | n + 1, h => by
    unfold owe at h
    rw [Pi.add_apply, Finsupp.add_apply, tallyAt_apply] at h
    by_cases hg : g = recvCell (peer c) (Fin.ofNat 4 (3 - n)) ∧ u = ()
    · exact ⟨_, hg.1⟩
    · rw [if_neg hg, Nat.add_zero] at h; exact owe_pos n h
theorem owed_pos {c : Dev nD} {g : GSem nD τ sig} {u : Unit} (h : 0 < owed sw c g u) : ∃ k, g = recvCell (peer c) k := by
  unfold owed at h
  split at h
  · exact owe_pos 4 h
  · exact absurd h (Nat.lt_irrefl 0)
theorem O₀_pos {c : Dev nD} {g : GSem nD τ sig} {u : Unit} (h : 0 < O₀ sw c g u) : g = barCell (peer c) ∨ ∃ k, g = recvCell (peer c) k := by
  unfold O₀ at h
  rw [Pi.add_apply, Finsupp.add_apply, tallyAt_apply] at h
  by_cases hg : g = barCell (peer c) ∧ u = ()
  · exact Or.inl hg.1
  · rw [if_neg hg, Nat.add_zero] at h; exact Or.inr (owed_pos sw h)

/-! ## The levels -/

def L (g : GSem nD τ sig) : Finset Unit := if g.1.2 = .tc then {()} else ∅
/-- Barrier semaphores at 1, receive semaphores at 2, everything else (staging, send) at 0. -/
def lv (g : GSem nD τ sig) (_ : Unit) : ℕ := match role g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (k : Fin 4) (u : Unit) : lv (recvCell c k) u = 2 := by
  unfold lv; rw [show role (recvCell c k).2 = some (some (true, k)) from role_csem (some (true, k))]

omit [FloatOps F] in
/-- A staging transfer may be waited for whatever the device owes: it stands lowest. -/
theorem mayWait_stage (c : Dev nD) (q : DmaSem sig) (hq : role (.dma q) = none) (O : CellTallies nD τ sig Unit) (hO : O = O₀ sw c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos sw hg with rfl | ⟨k, rfl⟩ <;> exact Finset.mem_singleton_self _)
      (fun p hp => by rw [Finset.mem_singleton.mp hp]; dsimp only [lv]; rw [hq])
      (fun g u hg => by
        rcases O₀_pos sw hg with rfl | ⟨k, rfl⟩
        · rw [lv_bar]; decide
        · rw [lv_recv]; decide)
  · rw [MayWait_zero]; iintro -; iempintro

omit [FloatOps F] in
/-- At its barrier a device owes receive credits at most, which stand above the barrier. -/
theorem mayWait_bar (c : Dev nD) : (levAts L lv : sProp 𝕄) ⊢ MayWait (c : Thread nD τ) (.reg barS) () (owed sw c) :=
  MayOwe.of_cut (L := L) (lev := lv) 1 (fun p hp => by rw [Finset.mem_singleton.mp hp, L_tc]; exact Finset.mem_singleton_self _)
    (fun g u hg => by obtain ⟨k, rfl⟩ := owed_pos sw hg; exact Finset.mem_singleton_self _)
    (fun p hp => by rw [Finset.mem_singleton.mp hp]; exact Nat.le_of_eq (lv_bar c _))
    (fun g u hg => by obtain ⟨k, rfl⟩ := owed_pos sw hg; rw [lv_recv]; decide)

end Cert.Exchange

end
-- ==== Proof.Steps.lean ====
/-
# The steps of an exchange, for any chunk

The three things the body does with a chunk: round its rows into the sending buffer and start their transfer; wait for
the other device's rows and store them widened in the result; wait for its own transfer to be over. Each is one lemma
for every chunk; the body's literal rectangles, memrefs and semaphores enter as equations.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)
  (K : Dev nD × Option (Bool × Fin 4) → ℕ)

abbrev 𝒱₀ : Variants := Variants.none

/-! ## The persistent facts: every semaphore's invariant, and that every semaphore has reached round 0 -/

def records : sProp 𝕄 :=
  iprop((bigSep Finset.univ fun ci => cellInv ER (exRd m ρ sw) (K ci) (kcell ci)) ∗ bigSep Finset.univ fun ci => reached ER (kcell ci) 0)

instance records_persistent : BI.Persistent (records m ρ sw K) := by unfold records; infer_instance

theorem inv_at (ci : Dev nD × Option (Bool × Fin 4)) : records m ρ sw K ⊢ cellInv ER (exRd m ρ sw) (K ci) (kcell ci) := by
  have h : (bigSep Finset.univ fun ci => (cellInv ER (exRd m ρ sw) (K ci) (kcell ci) : sProp 𝕄)) ⊢ cellInv ER (exRd m ρ sw) (K ci) (kcell ci) := bigSep_elim (Finset.mem_univ ci)
  unfold records
  iintro ⟨H, -⟩
  iapply h; iexact H
theorem reached_at (ci : Dev nD × Option (Bool × Fin 4)) : records m ρ sw K ⊢ reached ER (kcell ci) 0 := by
  have h : (bigSep Finset.univ fun ci => (reached ER (kcell ci) 0 : sProp 𝕄)) ⊢ reached ER (kcell ci) 0 := bigSep_elim (Finset.mem_univ ci)
  unfold records
  iintro ⟨-, H⟩
  iapply h; iexact H

/-! ## Contents -/

omit [FloatOps F] in
/-- A view written whole with what it reads of `g` holds `g` on its elements. -/
theorem written {sp : Space} {s : Shape} {e : EltTy} (v : View sig .tc sp s e) (f g : v.ty.Contents (Elt F)) (w : s.Idx → Elt F e)
    (h : w = v.read (Elt F) g) : ∀ i ∈ v.set, v.write (Elt F) f w Finset.univ i = g i := fun i hi => by
  obtain ⟨x, -, rfl⟩ := Finset.mem_map.mp hi
  rw [View.write_emb_of_mem _ _ (Finset.mem_univ x), h, View.read_apply, cast_cast, cast_eq]

/-- The block as staged, on device `c`. -/
def xPts (c : Dev nD) : sProp 𝕄 := ((c : Thread nD τ).loc cc0_stg1_0) ↦{fullShare} xstg m ρ c

/-! ## Rounding a chunk and starting its transfer -/

theorem rounded (c : Dev nD) (k : Fin 4) :
    truncf .bf16 (((xM.access (chunk k) : View sig .tc _ _ _).read (Elt F) (xstg m ρ c) : FVec F (chunk k).shape .f32)) bitsLt_bf16_f32
      = (sM.access (chunk k) : View sig .tc _ _ _).read (Elt F) (half m ρ c) := rfl

/-- Chunk `k` of the block is rounded into the sending buffer and its transfer to the other device started; that device's
    receiving chunk, handed over at the barrier, goes with it, and a credit on the own send semaphore comes back. -/
theorem wp_fill_send (c n : Dev nD) (k : Fin 4) {r : Rect S1x512x512} (hr : r = chunk k) (hn : n = peer c)
    {vS : Memref sig .tc .vmem S1x128x512 .bf16} {vR : Memref sig (Dev.tc n : Thread nD τ).2.kind .vmem S1x128x512 .bf16} {qs qr : DmaSem sig}
    (hvS : vS = sC k) (hvR : vR = rC k) (hqs : qs = sendS k) (hqr : qr = recvS k)
    {w : (r.shape.Idx → Elt F .f32) → (r.shape.Idx → Elt F .bf16)} (hw : ∀ v, w v = truncf .bf16 (v : FVec F r.shape .f32) bitsLt_bf16_f32)
    {O' : CellTallies nD τ sig Unit} (O : CellTallies nD τ sig Unit) (hO : O' = O + tallyAt (recvCell (peer c) k) () N)
    {W : Waits sig Unit} (hsw : sw = true)
    {hl₁ : xM.view.LoadsAt r.toLoadRect} {hl₂ : sM.view.LoadsAt r.toLoadRect} {hx : (sM.access r).Stores Finset.univ}
    {hm : (Finset.univ : Finset r.shape.Idx) = Finset.univ ∨ ∀ a, r.stride a = 1}
    {hsc : vR.view.ref.isScScratch = false} {hsrc : vS.view.WordExact} {hdst : vR.view.WordExact}
    {hsem : DmaTarget.Typed .vmem (.dma qr) (.remote (Dev.tc n : Thread nD τ) vR (.dma qs) hsc)}
    {α : Type} {Q : α → sProp 𝕄} {kt : PUnit → Prog (TpuEff nD τ sig (Elt F) Λ₀ .tc) α} :
    iprop(records m ρ sw K ∗ xPts m ρ c ∗ (∃ f, sPts c k f) ∗ (∃ f, rPts (peer c) k f)
        ∗ dutyTok ER (sendCell c k) 0 () ∗ dutyTok ER (recvCell (peer c) k) 0 () ∗ owes (c : Thread nD τ) O' W)
      ⊢ iprop(((xPts m ρ c ∗ cred (tallyAt (sendCell c k) () N) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.load xM r.toLoadRect hl₁) fun v => .op (.load sM r.toLoadRect hl₂) fun _ =>
                .op (.store sM r (w v) Finset.univ hx hm) fun _ =>
                  .op (.enqueueDma vS (.remote (Dev.tc n : Thread nD τ) vR (.dma qs) hsc) (.dma qr) hsrc hdst hsem) kt) Q) := by
  subst hr hn hvS hvR hqs hqr
  unfold xPts sPts
  iintro ⟨#HR, Hx, ⟨%f, Hs⟩, ⟨%fd, Hr⟩, HtS, HtR, HO⟩ Hk
  iapply (wp_load_rect 𝒱₀ (c : Thread nD τ) none Set.univ (m := xM) (r := chunk k) (Finset.subset_univ _)) $$ Hx; iintro Hx
  iapply (wp_load_rect 𝒱₀ (c : Thread nD τ) none Set.univ (m := sM) (r := chunk k) subset_rfl) $$ Hs; iintro Hs
  iapply (wp_store 𝒱₀ (c : Thread nD τ) none Set.univ (m := sM) (r := chunk k) (Mk := Finset.univ) (S := (sM.access (chunk k)).set) subset_rfl) $$ Hs; iintro Hs
  ihave Hs' := (Entails.of_eq (pointsTo_congr (written (sM.access (chunk k) : View sig .tc _ _ _) f (half m ρ c) _ ((hw _).trans (rounded m ρ c k))))) $$ Hs
  unfold rPts
  iapply (Rounds.wp_send_pointsTo 𝒱₀ ER (exRd m ρ sw) (c : Thread nD τ) none (c' := (peer c : Thread nD τ)) (src := sC k) (dst := rC k) (sS := .dma (sendS k)) (sem := .dma (recvS k)) (κ₁ := K (c, some (false, k))) (κ₂ := K (peer c, some (true, k)))
      (r₁ := 0) (r₂ := 0) (d₁ := ()) (d₂ := ()) (fd := fd) (fs := half m ρ c)
      (by rw [duties_live m ρ sw c (some (false, k)) hsw]; exact Finset.mem_singleton_self _)
      (by rw [duties_live m ρ sw (peer c) (some (true, k)) hsw]; exact Finset.mem_singleton_self _)
      () () N (credit_r k) (amount_at m ρ sw c (some (false, k)) ()) (amount_at m ρ sw (peer c) (some (true, k)) ()) O hO (W := W)
      (by rw [payload_at m ρ sw c (some (false, k))]; exact BI.Entails.refl _)
      (by
        rw [payload_at m ρ sw (peer c) (some (true, k))]
        refine Entails.of_eq ?_
        show _ = rPts (peer c) k (half m ρ (peer (peer c)))
        rw [peer_peer]
        exact pointsTo_congr (written (rC k).view fd (half m ρ c) _ rfl))) $$ [Hs' Hr HO HtS HtR]
  · isplitr; · iapply (inv_at m ρ sw K (c, some (false, k))); iexact HR
    isplitr; · iapply (inv_at m ρ sw K (peer c, some (true, k))); iexact HR
    isplitl [Hs']; · iexact Hs'
    isplitl [Hr]; · iexact Hr
    isplitl [HO]; · iexact HO
    isplitl [HtS]; · iexact HtS
    isplitr; · iapply (reached_at m ρ sw K (c, some (false, k))); iexact HR
    isplitl [HtR]; · iexact HtR
    iapply (reached_at m ρ sw K (peer c, some (true, k))); iexact HR
  iintro ⟨Hc, HO⟩
  iapply Hk
  isplitl [Hx]; · iexact Hx
  isplitl [Hc] <;> iassumption

/-! ## Receiving a chunk -/

theorem widened (hsw : sw = true) (c : Dev nD) (k : Fin 4) :
    extf .f32 (((rM.access (chunk k) : View sig .tc _ _ _).read (Elt F) (half m ρ (peer c)) : FVec F (chunk k).shape .bf16)) bitsLt_bf16_f32
      = (oM.access (chunk k) : View sig .tc _ _ _).read (Elt F) (outAt m ρ sw c) := by
  subst hsw; rfl

/-- The other device's chunk `k` is waited for, and stored widened in the result. -/
theorem wp_receive (c : Dev nD) (k : Fin 4) {r : Rect S1x512x512} (hr : r = chunk k)
    {vS vR : Memref sig .tc .vmem S1x128x512 .bf16} {qr : DmaSem sig} (hvS : vS = sC k) (hvR : vR = rC k) (hqr : qr = recvS k)
    {w : (r.shape.Idx → Elt F .bf16) → (r.shape.Idx → Elt F .f32)} (hw : ∀ v, w v = extf .f32 (v : FVec F r.shape .bf16) bitsLt_bf16_f32)
    {W : Waits sig Unit} (hsw : sw = true)
    {hs₁ : vS.view.WordExact} {hs₂ : vR.view.WordExact}
    {hl₁ : rM.view.LoadsAt r.toLoadRect} {hl₂ : oM.view.LoadsAt r.toLoadRect} {hx : (oM.access r).Stores Finset.univ}
    {hm : (Finset.univ : Finset r.shape.Idx) = Finset.univ ∨ ∀ a, r.stride a = 1}
    {α : Type} {Q : α → sProp 𝕄} {kt : PUnit → Prog (TpuEff nD τ sig (Elt F) Λ₀ .tc) α} :
    iprop(records m ρ sw K ∗ cred (tallyAt (recvCell c k) () N) ∗ atPos ER (recvCell c k) 0 ∅ 0 ∗ (∃ f, oPts c k f) ∗ owes (c : Thread nD τ) 0 W)
      ⊢ iprop(((rPts c k (half m ρ (peer c)) ∗ oPts c k (outAt m ρ sw c) ∗ atPos ER (recvCell c k) (0 + 1) ∅ 0
              ∗ owes (c : Thread nD τ) 0 (insert (SemLoc.dma (recvS k), ()) W))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 qr vS vR hs₁ hs₂) fun _ => .op (.load rM r.toLoadRect hl₁) fun v => .op (.load oM r.toLoadRect hl₂) fun _ =>
                .op (.store oM r (w v) Finset.univ hx hm) kt) Q) := by
  subst hr hvS hvR hqr
  iintro ⟨#HR, Hc, Hat, ⟨%f, Ho⟩, HO⟩ Hk
  iapply (Rounds.wp_wait_rest_token 𝒱₀ ER (exRd m ρ sw) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add, expect_at m ρ sw c (some (true, k)) hsw]; exact credit_r k)) $$ [Hc HO Hat]
  · isplitr; · iapply (inv_at m ρ sw K (c, some (true, k))); iexact HR
    isplitl [Hc]; · iexact Hc
    isplitl [HO]; · iexact HO
    isplitr; · rw [MayWait_zero]; iempintro
    iexact Hat
  iintro ⟨HO, Hat, -, Hpay⟩
  ihave Hr := (Entails.of_eq (rest_at m ρ sw c (some (true, k)) hsw)) $$ Hpay
  unfold pays rPts oPts
  iapply (wp_load_rect 𝒱₀ (c : Thread nD τ) none Set.univ (m := rM) (r := chunk k) subset_rfl) $$ Hr; iintro Hr
  iapply (wp_load_rect 𝒱₀ (c : Thread nD τ) none Set.univ (m := oM) (r := chunk k) subset_rfl) $$ Ho; iintro Ho
  iapply (wp_store 𝒱₀ (c : Thread nD τ) none Set.univ (m := oM) (r := chunk k) (Mk := Finset.univ) (S := (oM.access (chunk k)).set) subset_rfl) $$ Ho; iintro Ho
  ihave Ho' := (Entails.of_eq (pointsTo_congr (written (oM.access (chunk k) : View sig .tc _ _ _) f (outAt m ρ sw c) _ ((hw _).trans (widened m ρ sw hsw c k))))) $$ Ho
  iapply Hk
  isplitl [Hr]; · iexact Hr
  isplitl [Ho']; · iexact Ho'
  isplitl [Hat] <;> iassumption

/-! ## Its own transfer over -/

/-- The end of the own transfer of chunk `k` is waited for: the sent chunk comes back. -/
theorem wp_sent (c : Dev nD) (k : Fin 4) {vS vR : Memref sig .tc .vmem S1x128x512 .bf16} {qs : DmaSem sig} (hvS : vS = sC k) (hvR : vR = rC k) (hqs : qs = sendS k)
    {W : Waits sig Unit} (hsw : sw = true) {hs₁ : vR.view.WordExact} {hs₂ : vS.view.WordExact}
    {α : Type} {Q : α → sProp 𝕄} {kt : PUnit → Prog (TpuEff nD τ sig (Elt F) Λ₀ .tc) α} :
    iprop(records m ρ sw K ∗ cred (tallyAt (sendCell c k) () N) ∗ atPos ER (sendCell c k) 0 ∅ 0 ∗ owes (c : Thread nD τ) 0 W)
      ⊢ iprop(((sPts c k (half m ρ c) ∗ atPos ER (sendCell c k) (0 + 1) ∅ 0 ∗ owes (c : Thread nD τ) 0 (insert (SemLoc.dma (sendS k), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 qs vR vS hs₁ hs₂) kt) Q) := by
  subst hvS hvR hqs
  iintro ⟨#HR, Hc, Hat, HO⟩ Hk
  iapply (Rounds.wp_wait_rest_token 𝒱₀ ER (exRd m ρ sw) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_at m ρ sw c (some (false, k)) hsw]; exact credit_s k)) $$ [Hc HO Hat]
  · isplitr; · iapply (inv_at m ρ sw K (c, some (false, k))); iexact HR
    isplitl [Hc]; · iexact Hc
    isplitl [HO]; · iexact HO
    isplitr; · rw [MayWait_zero]; iempintro
    iexact Hat
  iintro ⟨HO, Hat, -, Hpay⟩
  ihave Hs := (Entails.of_eq (rest_at m ρ sw c (some (false, k)) hsw)) $$ Hpay
  unfold pays
  iapply Hk
  isplitl [Hs]; · iexact Hs
  isplitl [Hat] <;> iassumption

end Cert.Exchange

end
-- ==== Proof.Body.lean ====
/-
# The body

What a device starts the kernel with and ends it with, and the body run from the one to the other: the handshake of the
pair, then the copy of the own block or the exchange of the two, chunk by chunk.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)
  (K : Dev nD × Option (Bool × Fin 4) → ℕ)

/-! ## A device's semaphores, listed -/

omit [FloatOps F] in
/-- Over a device's semaphores: the barrier, and the transfers' eight. -/
theorem bigSep_sems (Φ : Option (Bool × Fin 4) → sProp 𝕄) :
    bigSep Finset.univ Φ = iprop(Φ none ∗ bigSep Finset.univ fun k => Φ (some k)) := by
  rw [bigSep_univ_at Φ none, show (Finset.univ : Finset (Option (Bool × Fin 4))).erase none = Finset.univ.map Function.Embedding.some from by decide,
    bigSep_map]
  rfl
omit [FloatOps F] in
/-- Listed out: the barrier, the four send semaphores, the four receive ones. -/
theorem bigSep_nine (Φ : Option (Bool × Fin 4) → sProp 𝕄) :
    bigSep Finset.univ Φ = iprop(Φ none ∗ (Φ (some (false, 0)) ∗ Φ (some (false, 1)) ∗ Φ (some (false, 2)) ∗ Φ (some (false, 3)))
      ∗ Φ (some (true, 0)) ∗ Φ (some (true, 1)) ∗ Φ (some (true, 2)) ∗ Φ (some (true, 3))) := by
  rw [bigSep_sems, bigSep_univ_prod, bigSep_univ_eq_bigSepL [false, true] (by decide) (by decide)]
  show iprop(_ ∗ (bigSep Finset.univ fun k => Φ (some (false, k))) ∗ bigSep Finset.univ fun k => Φ (some (true, k))) = _
  rw [bigSep_fin4, bigSep_fin4]

/-! ## What a device starts with -/

/-- The device whose semaphore `i` device `c` pays: itself for a send semaphore, the other of the pair otherwise. -/
def dest (i : Option (Bool × Fin 4)) : Dev nD ≃ Dev nD := match i with | some (false, _) => Equiv.refl _ | _ => swapPairs

/-- The tokens of the payments device `c` makes. -/
def payToks (c : Dev nD) : sProp 𝕄 := bigSep Finset.univ fun i => dutyTok ER (kcell (dest i c, i)) 0 ()

/-- The protocol's state on device `c` at the start. -/
def ghost (c : Dev nD) : sProp 𝕄 :=
  iprop(records m ρ sw K ∗ (bigSep Finset.univ fun i => atPos ER (kcell (c, i)) 0 ∅ 0) ∗ payToks c)

/-- The credits for its receive semaphores, in an exchange. -/
def recvCreds (c : Dev nD) : sProp 𝕄 := if sw then bigSep Finset.univ fun k => cred (tallyAt (recvCell c k) () N) else iprop(emp)

def start (c : Dev nD) : sProp 𝕄 :=
  iprop((∃ K, ghost m ρ sw K c) ∗ cred (tallyAt (barCell c) () 1) ∗ recvCreds sw c ∗ levAts L lv)

/-- A buffer whole, at some contents. -/
def some_ (c : Dev nD) (b : Ref sig .tc) : sProp 𝕄 := iprop(∃ f : Buf (Elt F) ((c : Thread nD τ).loc b), ((c : Thread nD τ).loc b) ↦{fullShare} f)

def Φ₀ (c : Dev nD) : sProp 𝕄 := iprop(start m ρ sw c ∗ some_ c cc0_scratch0 ∗ some_ c cc0_scratch1)
/-- After the body: both exchange buffers at some contents, every semaphore of the protocol at zero. -/
def Φ₁ (c : Dev nD) : sProp 𝕄 := iprop((some_ (F := F) c cc0_scratch0 ∗ some_ c cc0_scratch1) ∗ bigSep Finset.univ fun i => semVal (kcell (c, i)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
    | ⟨1, _⟩ => xstg m ρ c
    | ⟨2, _⟩ => outAt m ρ sw c
  Φ t := match t with
    | ⟨0, _⟩ => Φ₀ m ρ sw c
    | ⟨_ + 1, _⟩ => Φ₁ (F := F) c
  q _ := fullShare
  owed t := match t with
    | ⟨0, _⟩ => O₀ sw c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

/-! ## The handshake -/

omit [FloatOps F] in
/-- A device's receiving buffer is what its barrier signal hands over in an exchange; otherwise it keeps it. -/
theorem offer (c : Dev nD) : (some_ c cc0_scratch1 : sProp 𝕄) ⊢ iprop(barPay sw (peer c) ∗ if sw then iprop(emp) else some_ c cc0_scratch1) := by
  unfold barPay
  cases sw
  · rw [if_neg Bool.false_ne_true, if_neg Bool.false_ne_true]
    iintro H
    isplitr; · iempintro
    iexact H
  · rw [if_pos rfl, if_pos rfl, peer_peer]
    unfold some_
    iintro ⟨%f, H⟩
    isplitl [H]
    · iapply ((Entails.of_eq (rPts_all c f)).trans (bigSep_mono fun k _ => show (rPts c k f : sProp 𝕄) ⊢ iprop(∃ f, rPts c k f) from by
        iintro H; iexists f; iexact H))
      iexact H
    · iempintro

/-! ## The semaphores closed -/

/-- How many rounds a semaphore went through. -/
def rounds (i : Option (Bool × Fin 4)) : ℕ := if live sw (some i) = true then 1 else 0

theorem duties_after (c : Dev nD) (i : Option (Bool × Fin 4)) : ∀ r, rounds sw i ≤ r → (exRd (F := F) m ρ sw).duties (kcell (c, i)) r = ∅ := by
  unfold rounds
  by_cases h : live sw (some i) = true
  · rw [if_pos h]; exact duties_later m ρ sw _
  · rw [if_neg h]; exact duties_idle m ρ sw c i (Bool.not_eq_true _ ▸ h)

theorem close_one (c : Dev nD) (i : Option (Bool × Fin 4)) :
    iprop(records m ρ sw K ∗ atPos ER (kcell (c, i)) (rounds sw i) ∅ 0) ⊢ (|={Set.univ}=> semVal (kcell (c, i)) 0 : sProp 𝕄) := by
  iintro ⟨#HR, Hat⟩
  iapply (Rounds.cell_close ER (exRd m ρ sw) (Set.mem_univ (K (c, i))) (fun h => h) (R := rounds sw i) (duties_after m ρ sw c i))
  isplitr; · iapply (inv_at m ρ sw K (c, i)); iexact HR
  iexact Hat

theorem close_all (c : Dev nD) :
    iprop(records m ρ sw K ∗ bigSep Finset.univ fun i => atPos ER (kcell (c, i)) (rounds sw i) ∅ 0)
      ⊢ (|={Set.univ}=> bigSep Finset.univ fun i => semVal (kcell (c, i)) 0 : sProp 𝕄) := by
  refine (sep_mono_left (BI.bigSep_of_persistent (Finset.univ : Finset (Option (Bool × Fin 4))) (records m ρ sw K))).trans ?_
  rw [← bigSep_sep']
  exact (bigSep_mono fun i _ => close_one m ρ sw K c i).trans (bigSep_fupd _ _)

/-! ## The body -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev rWhole : Rect S1x512x512 := Rect.unit (s := S1x512x512) ![0, 0, 0] S1x512x512.size inb_S1x512x512_S1x512x512_0_0_0
theorem hz : (![0, 0, 0] : Fin 3 → Nat) = fun _ => 0 := funext fun a => by fin_cases a <;> rfl
/-- The copy of the own block: what is stored is the block. -/
theorem copied (c : Dev nD) (f : (cc0_stg2_0 : Ref sig .tc).ty.Contents (Elt F)) :
    (oM.access rWhole : View sig .tc _ _ _).write (Elt F) f (k0_pay1 (xM.view.readAt (Elt F) rWhole.toLoadRect (xstg m ρ c))) Finset.univ
      = outAt m ρ false c := by
  rw [show xM.view.readAt (Elt F) rWhole.toLoadRect (xstg m ρ c) = xstg m ρ c from Memref.readAt_unit_zero (Elt F) cc0_stg1_0 hz _ _]
  refine (Memref.write_access_unit_zero_univ (Elt F) cc0_stg2_0 hz _ f _).trans ?_
  unfold k0_pay1
  exact shapeCast_self _ _

def bodyPre (c : Dev nD) : sProp 𝕄 :=
  iprop((ghost m ρ sw K c ∗ cred (tallyAt (barCell c) () 1) ∗ recvCreds sw c ∗ levAts L lv ∗ some_ c cc0_scratch0 ∗ some_ c cc0_scratch1)
    ∗ (dats m ρ sw 0 c).owesAt () t0_0.castSucc
    ∗ (∃ d, stg c cc0_stg0_0 ((dats m ρ sw 0 c).before (0 : Fin 3) t0_0 d))
    ∗ (∃ d, stg c cc0_stg1_0 ((dats m ρ sw 0 c).before (1 : Fin 3) t0_0 d))
    ∗ (∃ d, stg c cc0_stg2_0 ((dats m ρ sw 0 c).before (2 : Fin 3) t0_0 d)))
def bodyPost (c : Dev nD) : sProp 𝕄 :=
  iprop(Φ₁ (F := F) c ∗ (dats m ρ sw 0 c).owesAt () t0_0.succ ∗ stg c cc0_stg0_0 (tstg m ρ c) ∗ stg c cc0_stg1_0 (xstg m ρ c) ∗ stg c cc0_stg2_0 (outAt m ρ sw c))

/-- The end of the body, whichever branch it took: the semaphores closed and everything handed back. -/
theorem body_end (c : Dev nD) (W : Waits sig Unit) (Kt : PUnit → sProp 𝕄) :
    iprop(records m ρ sw K ∗ (bigSep Finset.univ fun i => atPos ER (kcell (c, i)) (rounds sw i) ∅ 0)
        ∗ some_ c cc0_scratch0 ∗ some_ c cc0_scratch1 ∗ owes (c : Thread nD τ) 0 W
        ∗ (((c : Thread nD τ).loc cc0_stg0_0) ↦{fullShare} tstg m ρ c) ∗ (((c : Thread nD τ).loc cc0_stg1_0) ↦{fullShare} xstg m ρ c)
        ∗ (((c : Thread nD τ).loc cc0_stg2_0) ↦{fullShare} outAt m ρ sw c) ∗ (bodyPost m ρ sw c -∗ Kt ⟨⟩))
      ⊢ |={Set.univ}=> Kt ⟨⟩ := by
  iintro ⟨#HR, Hat, Hs, Hr, HO, Ht, Hx, Ho, Hk⟩
  imod (close_all m ρ sw K c) $$ [Hat] with Hz
  · isplitr; · iexact HR
    iexact Hat
  imodintro
  iapply Hk
  unfold bodyPost Φ₁ Dat.owesAt Pipeline.owesWithin
  rw [show (dats m ρ sw 0 c).owed t0_0.succ = 0 from rfl]
  isplitl [Hs Hr Hz]
  · isplitl [Hs Hr]
    · isplitl [Hs] <;> iassumption
    iexact Hz
  isplitl [HO]
  · iexists W
    isplitr; · ipureintro; exact fun _ _ => Or.inl trivial
    iexact HO
  isplitl [Ht]
  · iexists _; isplitr; · (ipureintro; rfl)
    iexact Ht
  isplitl [Hx]
  · iexists _; isplitr; · (ipureintro; rfl)
    iexact Hx
  iexists _; isplitr; · (ipureintro; rfl)
  iexact Ho

set_option maxHeartbeats 4000000 in
set_option maxRecDepth 8000 in
/-- The body, run from `bodyPre` to `bodyPost`, the permutation's entry at the device's position as the precondition says. -/
theorem sound_body (hpre : PreOK m sw) (c : Dev nD) (Kt : PUnit → sProp 𝕄) :
    iprop(bodyPre m ρ sw K c ∗ (bodyPost m ρ sw c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold bodyPre ghost payToks
  iintro ⟨⟨⟨⟨#HR, Hat, Htok⟩, HcB, HcV, #Hlev, Hs, Hr⟩, Ho, ⟨%d0, %g0, %hg0, Ht⟩, ⟨%d1, %g1, %hg1, Hx⟩, ⟨%d2, %g2, %hg2, Hout⟩⟩, Hk⟩
  have ht : g0 = tstg m ρ c := by rw [hg0]; unfold Dat.before; rw [if_pos (fetch_0 t0_0)]; rfl
  have hx : g1 = xstg m ρ c := by rw [hg1]; unfold Dat.before; rw [if_pos (fetch_1 t0_0)]; rfl
  subst ht hx
  unfold Dat.owesAt Pipeline.owesWithin
  icases Ho with ⟨%W, %hW, HO⟩
  rw [show (dats m ρ sw 0 c).owed t0_0.castSucc = O₀ sw c from rfl]
  -- the entry is read, and is what the precondition says
  iapply (wp_load_rect 𝒱₀ (c : Thread nD τ) none Set.univ (m := tM) (r := rPos c) (Finset.subset_univ _)) $$ Ht; iintro Ht
  generalize hv : (tM.access (rPos c) : View sig .tc _ _ _).read (Elt F) (tstg m ρ c) (Shape.Idx.first (s := S1) (numel1_S1.symm ▸ Nat.one_pos)) = v
  have hv' : v = entry sw (c.val % 2) := hv.symm.trans ((loaded_tstg m ρ c).trans (hpre c))
  clear hv
  subst hv'
  simp only [wp_assume_of _ _ _ _ (d := k0_chk1.dec _ _) (entry_chk sw c), dev1_eq c]
  -- the handshake of the pair
  ihave Hat' := (Entails.of_eq (bigSep_nine _)) $$ Hat
  ihave Htok' := (Entails.of_eq (bigSep_nine _)) $$ Htok
  icases Hat' with ⟨HatB, ⟨HaS0, HaS1, HaS2, HaS3⟩, HaR0, HaR1, HaR2, HaR3⟩
  icases Htok' with ⟨HtB, ⟨HtS0, HtS1, HtS2, HtS3⟩, HtR0, HtR1, HtR2, HtR3⟩
  ihave Hof := (offer sw c) $$ Hr
  icases Hof with ⟨Hoff, Hr⟩
  iapply (Rounds.wp_signal 𝒱₀ ER (exRd m ρ sw) (c : Thread nD τ) none (dst := (peer c : Thread nD τ)) (κ := K (peer c, none))
      (d := ()) (by rw [duties_live m ρ sw (peer c) none rfl]; exact Finset.mem_singleton_self _)
      ((amount_at m ρ sw (peer c) none ()).trans (by decide)) () (owed sw c) rfl) $$ [HO HtB Hoff]
  · isplitr; · iapply (inv_at m ρ sw K (peer c, none)); iexact HR
    isplitl [HO]; · iexact HO
    isplitl [HtB]; · iexact HtB
    isplitl [Hoff]; · rw [payload_at m ρ sw (peer c) none]; unfold pays; iexact Hoff
    iapply (reached_at m ρ sw K (peer c, none)); iexact HR
  iintro HO
  iapply (Rounds.wp_wait_rest_token 𝒱₀ ER (exRd m ρ sw) (c : Thread nD τ) none (κ := K (c, none))
      (wpE_semWait_eq 𝒱₀ (c : Thread nD τ) none Set.univ) (Set.mem_univ _) () (O := owed sw c) (W := W) (R := 0) (m := 0) (T := ∅)
      (by rw [expect_at m ρ sw c none rfl]; decide)) $$ [HcB HO HatB]
  · isplitr; · iapply (inv_at m ρ sw K (c, none)); iexact HR
    isplitl [HcB]; · iexact HcB
    isplitl [HO]; · iexact HO
    isplitr; · iapply (mayWait_bar sw c); iexact Hlev
    iexact HatB
  iintro ⟨HO, HatB, -, Hpay⟩
  ihave Hp := (Entails.of_eq (rest_at m ρ sw c none rfl)) $$ Hpay
  cases sw with
  | false =>
    -- the rows kept: the own block is copied
    rw [if_pos (kept_first c)]
    simp only [dif_neg (kept_second c)]
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Hout; iintro Hout
    iapply (wp_store 𝒱₀ (c : Thread nD τ) none Set.univ (m := oM) (r := rWhole) (Mk := Finset.univ) (Finset.subset_univ _)) $$ Hout; iintro Hout
    rw [copied m ρ c, wp_ret]
    ihave Hr := (Entails.of_eq (if_neg Bool.false_ne_true)) $$ Hr
    iapply (body_end m ρ false K c (insert (SemLoc.reg barS, ()) W) Kt)
    isplitr; · iexact HR
    isplitl [HatB HaS0 HaS1 HaS2 HaS3 HaR0 HaR1 HaR2 HaR3]
    · rw [bigSep_nine]
      isplitl [HatB]; · iexact HatB
      isplitl [HaS0 HaS1 HaS2 HaS3]
      · isplitl [HaS0]; · iexact HaS0
        isplitl [HaS1]; · iexact HaS1
        isplitl [HaS2]; · iexact HaS2
        iexact HaS3
      isplitl [HaR0]; · iexact HaR0
      isplitl [HaR1]; · iexact HaR1
      isplitl [HaR2]; · iexact HaR2
      iexact HaR3
    isplitl [Hs]; · iexact Hs
    isplitl [Hr]; · iexact Hr
    isplitl [HO]; · iexact HO
    isplitl [Ht]; · iexact Ht
    isplitl [Hx]; · iexact Hx
    isplitl [Hout]; · iexact Hout
    iexact Hk
  | true =>
    -- the rows exchanged
    rw [if_neg (swapped_first c), dif_pos (swapped_second c)]
    simp only [k0_part1_eq_skeleton, k0_part2_eq_skeleton, k0_part3_eq_skeleton, k0_part4_eq_skeleton, k0_part5_eq_skeleton]
    unfold k0_part1_skel k0_part2_skel k0_part3_skel k0_part4_skel k0_part5_skel
    simp only [Prog.lift, Prog.bind_op, Prog.bind_ret, Prog.pure_eq_ret, Prog.bind_assoc]
    obtain ⟨h2, h3, h4, h5⟩ := devs_eq c
    unfold pays barPay some_ recvCreds
    ihave Hx := (show (((c : Thread nD τ).loc cc0_stg1_0) ↦{fullShare} xstg m ρ c : sProp 𝕄) ⊢ xPts m ρ c from BI.Entails.refl _) $$ Hx
    icases Hs with ⟨%fs, Hs⟩
    ihave Hs' := (Entails.of_eq ((sPts_all c fs).trans (bigSep_fin4 _))) $$ Hs
    icases Hs' with ⟨Hs0, Hs1, Hs2, Hs3⟩
    ihave Ho' := (Entails.of_eq ((oPts_all c g2).trans (bigSep_fin4 _))) $$ Hout
    icases Ho' with ⟨Ho0, Ho1, Ho2, Ho3⟩
    ihave Hp' := (Entails.of_eq ((if_pos rfl).trans (bigSep_fin4 _))) $$ Hp
    icases Hp' with ⟨Hp0, Hp1, Hp2, Hp3⟩
    ihave Hc' := (Entails.of_eq ((if_pos rfl).trans (bigSep_fin4 _))) $$ HcV
    icases Hc' with ⟨HcR0, HcR1, HcR2, HcR3⟩
    -- the four chunks sent
    iapply (wp_fill_send m ρ true K c _ 0 chunk_0 (Fin.ext h2) rfl rfl rfl rfl (fun v => by unfold k0_pay2; simp only [shapeCast_self]) (owe c 3) rfl rfl) $$ [Hx Hs0 Hp0 HtS0 HtR0 HO]
    · isplitr; · iexact HR
      isplitl [Hx]; · iexact Hx
      isplitl [Hs0]; · iexists _; iexact Hs0
      isplitl [Hp0]; · iexact Hp0
      isplitl [HtS0]; · iexact HtS0
      isplitl [HtR0]; · iexact HtR0
      iexact HO
    iintro ⟨Hx, HcS0, HO⟩
    iapply (wp_fill_send m ρ true K c _ 1 chunk_1 (Fin.ext h3) rfl rfl rfl rfl (fun v => by unfold k0_pay3; simp only [shapeCast_self]) (owe c 2) rfl rfl) $$ [Hx Hs1 Hp1 HtS1 HtR1 HO]
    · isplitr; · iexact HR
      isplitl [Hx]; · iexact Hx
      isplitl [Hs1]; · iexists _; iexact Hs1
      isplitl [Hp1]; · iexact Hp1
      isplitl [HtS1]; · iexact HtS1
      isplitl [HtR1]; · iexact HtR1
      iexact HO
    iintro ⟨Hx, HcS1, HO⟩
    iapply (wp_fill_send m ρ true K c _ 2 chunk_2 (Fin.ext h4) rfl rfl rfl rfl (fun v => by unfold k0_pay4; simp only [shapeCast_self]) (owe c 1) rfl rfl) $$ [Hx Hs2 Hp2 HtS2 HtR2 HO]
    · isplitr; · iexact HR
      isplitl [Hx]; · iexact Hx
      isplitl [Hs2]; · iexists _; iexact Hs2
      isplitl [Hp2]; · iexact Hp2
      isplitl [HtS2]; · iexact HtS2
      isplitl [HtR2]; · iexact HtR2
      iexact HO
    iintro ⟨Hx, HcS2, HO⟩
    iapply (wp_fill_send m ρ true K c _ 3 chunk_3 (Fin.ext h5) rfl rfl rfl rfl (fun v => by unfold k0_pay6 k0_pay5; simp only [shapeCast_self]) (owe c 0) rfl rfl) $$ [Hx Hs3 Hp3 HtS3 HtR3 HO]
    · isplitr; · iexact HR
      isplitl [Hx]; · iexact Hx
      isplitl [Hs3]; · iexists _; iexact Hs3
      isplitl [Hp3]; · iexact Hp3
      isplitl [HtS3]; · iexact HtS3
      isplitl [HtR3]; · iexact HtR3
      iexact HO
    iintro ⟨Hx, HcS3, HO⟩
    -- the other device's four chunks received
    iapply (wp_receive m ρ true K c 0 chunk_0 rfl rfl rfl (fun v => rfl) rfl) $$ [HcR0 HaR0 Ho0 HO]
    · isplitr; · iexact HR
      isplitl [HcR0]; · iexact HcR0
      isplitl [HaR0]; · iexact HaR0
      isplitl [Ho0]; · iexists _; iexact Ho0
      iexact HO
    iintro ⟨Hr0, Ho0, HaR0, HO⟩
    iapply (wp_receive m ρ true K c 1 chunk_1 rfl rfl rfl (fun v => rfl) rfl) $$ [HcR1 HaR1 Ho1 HO]
    · isplitr; · iexact HR
      isplitl [HcR1]; · iexact HcR1
      isplitl [HaR1]; · iexact HaR1
      isplitl [Ho1]; · iexists _; iexact Ho1
      iexact HO
    iintro ⟨Hr1, Ho1, HaR1, HO⟩
    iapply (wp_receive m ρ true K c 2 chunk_2 rfl rfl rfl (fun v => rfl) rfl) $$ [HcR2 HaR2 Ho2 HO]
    · isplitr; · iexact HR
      isplitl [HcR2]; · iexact HcR2
      isplitl [HaR2]; · iexact HaR2
      isplitl [Ho2]; · iexists _; iexact Ho2
      iexact HO
    iintro ⟨Hr2, Ho2, HaR2, HO⟩
    iapply (wp_receive m ρ true K c 3 chunk_3 rfl rfl rfl (fun v => rfl) rfl) $$ [HcR3 HaR3 Ho3 HO]
    · isplitr; · iexact HR
      isplitl [HcR3]; · iexact HcR3
      isplitl [HaR3]; · iexact HaR3
      isplitl [Ho3]; · iexists _; iexact Ho3
      iexact HO
    iintro ⟨Hr3, Ho3, HaR3, HO⟩
    -- and the own transfers over
    iapply (wp_sent m ρ true K c 0 rfl rfl rfl rfl) $$ [HcS0 HaS0 HO]
    · isplitr; · iexact HR
      isplitl [HcS0]; · iexact HcS0
      isplitl [HaS0]; · iexact HaS0
      iexact HO
    iintro ⟨Hs0, HaS0, HO⟩
    iapply (wp_sent m ρ true K c 1 rfl rfl rfl rfl) $$ [HcS1 HaS1 HO]
    · isplitr; · iexact HR
      isplitl [HcS1]; · iexact HcS1
      isplitl [HaS1]; · iexact HaS1
      iexact HO
    iintro ⟨Hs1, HaS1, HO⟩
    iapply (wp_sent m ρ true K c 2 rfl rfl rfl rfl) $$ [HcS2 HaS2 HO]
    · isplitr; · iexact HR
      isplitl [HcS2]; · iexact HcS2
      isplitl [HaS2]; · iexact HaS2
      iexact HO
    iintro ⟨Hs2, HaS2, HO⟩
    iapply (wp_sent m ρ true K c 3 rfl rfl rfl rfl) $$ [HcS3 HaS3 HO]
    · isplitr; · iexact HR
      isplitl [HcS3]; · iexact HcS3
      isplitl [HaS3]; · iexact HaS3
      iexact HO
    iintro ⟨Hs3, HaS3, HO⟩
    rw [wp_ret]
    iapply (body_end m ρ true K c _ Kt)
    isplitr; · iexact HR
    isplitl [HatB HaS0 HaS1 HaS2 HaS3 HaR0 HaR1 HaR2 HaR3]
    · rw [bigSep_nine]
      isplitl [HatB]; · iexact HatB
      isplitl [HaS0 HaS1 HaS2 HaS3]
      · isplitl [HaS0]; · iexact HaS0
        isplitl [HaS1]; · iexact HaS1
        isplitl [HaS2]; · iexact HaS2
        iexact HaS3
      isplitl [HaR0]; · iexact HaR0
      isplitl [HaR1]; · iexact HaR1
      isplitl [HaR2]; · iexact HaR2
      iexact HaR3
    isplitl [Hs0 Hs1 Hs2 Hs3]
    · unfold some_
      iexists _
      iapply (Entails.of_eq ((sPts_all c (half m ρ c)).trans (bigSep_fin4 _)).symm)
      isplitl [Hs0]; · iexact Hs0
      isplitl [Hs1]; · iexact Hs1
      isplitl [Hs2]; · iexact Hs2
      iexact Hs3
    isplitl [Hr0 Hr1 Hr2 Hr3]
    · unfold some_
      iexists _
      iapply (Entails.of_eq ((rPts_all c (half m ρ (peer c))).trans (bigSep_fin4 _)).symm)
      isplitl [Hr0]; · iexact Hr0
      isplitl [Hr1]; · iexact Hr1
      isplitl [Hr2]; · iexact Hr2
      iexact Hr3
    isplitl [HO]; · iexact HO
    isplitl [Ht]; · iexact Ht
    isplitl [Hx]; · unfold xPts; iexact Hx
    isplitl [Ho0 Ho1 Ho2 Ho3]
    · iapply (Entails.of_eq ((oPts_all c (outAt m ρ true c)).trans (bigSep_fin4 _)).symm)
      isplitl [Ho0]; · iexact Ho0
      isplitl [Ho1]; · iexact Ho1
      isplitl [Ho2]; · iexact Ho2
      iexact Ho3
    iexact Hk

/-- The library's body obligation on device `c`. -/
theorem body_obligation (hpre : PreOK m sw) (c : Dev nD) : BodyObligation (dats (F := F) m ρ sw 0 c) (defs₀ (F := F)) 𝒱₀ () Set.univ := fun t => by
  rw [fin_N0 t]
  rw [bigSep_W0, bigSep_W0]
  simp only [owns_whole_eq]
  show iprop(Φ₀ m ρ sw c ∗ (dats m ρ sw 0 c).owesAt () t0_0.castSucc
      ∗ (∃ d, stg c cc0_stg0_0 ((dats m ρ sw 0 c).before (0 : Fin 3) t0_0 d))
      ∗ (∃ d, stg c cc0_stg1_0 ((dats m ρ sw 0 c).before (1 : Fin 3) t0_0 d))
      ∗ (∃ d, stg c cc0_stg2_0 ((dats m ρ sw 0 c).before (2 : Fin 3) t0_0 d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3) (fun _ => bodyPost m ρ sw c)
  unfold Φ₀ start
  iintro ⟨⟨⟨⟨%K, Hg⟩, HcB, HcV, Hlev⟩, Hs, Hr⟩, Hrest⟩
  iapply (sound_body m ρ sw K hpre c fun _ => bodyPost m ρ sw c)
  unfold bodyPre
  isplitr []
  · isplitl [Hg HcB HcV Hlev Hs Hr]
    · isplitl [Hg]; · iexact Hg
      isplitl [HcB]; · iexact HcB
      isplitl [HcV]; · iexact HcV
      isplitl [Hlev]; · iexact Hlev
      isplitl [Hs]; · iexact Hs
      iexact Hr
    iexact Hrest
  · iintro H; iexact H

end Cert.Exchange

end
-- ==== Proof.Launch.lean ====
/-
# The launch

The semaphores' rounds allocated and their tokens dealt to the devices that pay with them, what every device owes and is
credited with, and the run of the whole program: it ends, with every array as computed and every semaphore at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

theorem ownSemFacts : Pipeline.OwnSemFacts cfg0.spec osem := by decide

theorem share_eq (c : Dev nD) (w : Fin cfg0.W) : (dats m ρ sw 0 c).share w = fullShare := by unfold Dat.share; split <;> rfl

/-! ## The rounds allocated -/

/-- A payment of device and semaphore `ci`: the one of its round 0. -/
def payment : Dev nD × Option (Bool × Fin 4) ↪ GSem nD τ sig × ℕ × Unit := ⟨fun ci => (kcell ci, 0, ()), fun _ _ h => kcell_injective (congrArg Prod.fst h)⟩
def allCells : Finset (GSem nD τ sig) := Finset.univ.map ⟨kcell, kcell_injective⟩
def allToks : Finset (GSem nD τ sig × ℕ × Unit) := Finset.univ.map payment

def u₀ : UU :=
  (initOf (Pipeline.cells cfgs cellOf_inj) (Pipeline.launchToks cfgs cellOf_inj), initOf allCells allToks)

/-- The tokens of device `c`'s own semaphores. -/
def toks (c : Dev nD) : sProp 𝕄 := bigSep Finset.univ fun i => dutyTok ER (kcell (c, i)) 0 ()

/-- What the launch's resources give device `c`; -/
def G (c : Dev nD) : sProp 𝕄 :=
  iprop((bigSep Finset.univ fun i => roundState ER (exRd m ρ sw) (kcell (c, i)) 0)
    ∗ (bigSep Finset.univ fun i => atPos ER (kcell (c, i)) 0 ∅ 0) ∗ (bigSep Finset.univ fun i => reached ER (kcell (c, i)) 0) ∗ toks c)
/-- and what the devices make of it together. -/
def G' (c : Dev nD) : sProp 𝕄 := iprop(∃ K, ghost m ρ sw K c)

theorem fund : BI.own (ER (initOf allCells allToks)) ⊢ (|==> bigSep Finset.univ (G m ρ sw) : sProp 𝕄) := by
  have hX (Φ : GSem nD τ sig → sProp 𝕄) : bigSep allCells Φ = bigSep Finset.univ fun c : Dev nD => bigSep Finset.univ fun i => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (exRd m ρ sw) allCells allToks) $$ HX with ⟨Hst, Hr, Hat, Htok⟩
  imodintro
  ihave Hst' := (Entails.of_eq (hX fun g => roundState ER (exRd m ρ sw) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores: the launch's and the kernel's own. -/
theorem sems0_eq (c : Dev nD) :
    (bigSep Finset.univ fun i => semVal (kcell (c, i)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_sems]; rfl

theorem core_alloc (c : Dev nD) :
    iprop(Pipeline.ownSems0 (Ix := Unit) (Name := ℕ) (U := UU) (Lvl := ℕ) (Val := Elt F) (τ := τ) osem c ∗ unscopedSems0 c ∗ G m ρ sw c)
      ⊢ |={Set.univ}=> iprop((bigSep Finset.univ fun i => iprop(∃ κ : ℕ, cellInv ER (exRd m ρ sw) κ (kcell (c, i))))
          ∗ (bigSep Finset.univ fun i => atPos ER (kcell (c, i)) 0 ∅ 0) ∗ (bigSep Finset.univ fun i => reached ER (kcell (c, i)) 0) ∗ toks c) := by
  unfold G
  iintro ⟨Hos, Hus, Hst, Hrest⟩
  ihave Hv := (Entails.of_eq (sems0_eq (F := F) c).symm) $$ [Hos Hus]
  · isplitl [Hus] <;> iassumption
  imod (show iprop((bigSep Finset.univ fun i => semVal (kcell (c, i)) 0) ∗ bigSep Finset.univ fun i => roundState ER (exRd m ρ sw) (kcell (c, i)) 0)
      ⊢ (|={Set.univ}=> bigSep Finset.univ fun i => iprop(∃ κ : ℕ, cellInv ER (exRd m ρ sw) κ (kcell (c, i))) : sProp 𝕄) from by
        rw [← bigSep_sep']
        exact (bigSep_mono fun i _ => (Rounds.body_intro ER (exRd m ρ sw) (kcell (c, i))).trans inv_alloc).trans (bigSep_fupd _ _)) $$ [Hv Hst] with Hinv
  · isplitl [Hv] <;> iassumption
  imodintro
  isplitl [Hinv]; · iexact Hinv
  iexact Hrest

/-- A device and semaphore, to the device and semaphore it pays. -/
def paying : Dev nD × Option (Bool × Fin 4) ≃ Dev nD × Option (Bool × Fin 4) where
  toFun ci := (dest ci.2 ci.1, ci.2)
  invFun ci := ((dest ci.2).symm ci.1, ci.2)
  left_inv ci := Prod.ext ((dest ci.2).symm_apply_apply ci.1) rfl
  right_inv ci := Prod.ext ((dest ci.2).apply_symm_apply ci.1) rfl

omit [FloatOps F] in
/-- Every token to the device that pays with it. -/
theorem toks_around : (bigSep Finset.univ fun c : Dev nD => (toks c : sProp 𝕄)) = bigSep Finset.univ fun c : Dev nD => payToks c := by
  unfold toks payToks
  rw [← bigSep_univ_prod (fun ci : Dev nD × Option (Bool × Fin 4) => (dutyTok ER (kcell ci) 0 () : sProp 𝕄))]
  refine (bigSep_univ_equiv paying _).trans ?_
  rw [bigSep_univ_prod]
  rfl

theorem regroup :
    (bigSep Finset.univ fun c : Dev nD => iprop((bigSep Finset.univ fun i => iprop(∃ κ : ℕ, cellInv ER (exRd m ρ sw) κ (kcell (c, i))))
          ∗ (bigSep Finset.univ fun i => atPos ER (kcell (c, i)) 0 ∅ 0) ∗ (bigSep Finset.univ fun i => reached ER (kcell (c, i)) 0) ∗ toks c) : sProp 𝕄)
      ⊢ bigSep Finset.univ (G' m ρ sw) := by
  have hg (K) : iprop(records m ρ sw K ∗ bigSep Finset.univ fun c : Dev nD => iprop((bigSep Finset.univ fun i => atPos ER (kcell (c, i)) 0 ∅ 0) ∗ payToks c))
      ⊢ bigSep Finset.univ (G' m ρ sw) := by
    refine (sep_mono_left (BI.bigSep_of_persistent (Finset.univ : Finset (Dev nD)) (records m ρ sw K))).trans ?_
    rw [← bigSep_sep']
    refine bigSep_mono fun c _ => ?_
    unfold G' ghost
    exact exists_intro (Φ := fun K => iprop(records m ρ sw K ∗ (bigSep Finset.univ fun i => atPos ER (kcell (c, i)) 0 ∅ 0) ∗ payToks c)) K
  rw [bigSep_sep', bigSep_sep', bigSep_sep', toks_around, ← bigSep_univ_prod (fun ci : Dev nD × Option (Bool × Fin 4) => iprop(∃ κ : ℕ, cellInv ER (exRd m ρ sw) κ (kcell ci))),
    ← bigSep_univ_prod (fun ci : Dev nD × Option (Bool × Fin 4) => (reached ER (kcell ci) 0 : sProp 𝕄))]
  iintro ⟨HI, Hat, #HR, Htok⟩
  ihave HK := (BI.bigSep_exists_pi Finset.univ (fun (ci : Dev nD × Option (Bool × Fin 4)) (κ : ℕ) => (cellInv ER (exRd m ρ sw) κ (kcell ci) : sProp 𝕄))) $$ HI
  icases HK with ⟨%K, #HI⟩
  iapply (hg K)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ sw c) : sProp 𝕄)
    ⊢ |={Set.univ}=> bigSep Finset.univ (G' m ρ sw) :=
  ((bigSep_mono fun c _ => core_alloc m ρ sw c).trans (bigSep_fupd _ _)).trans (BI.fupd_mono (regroup m ρ sw))

/-! ## What the devices are credited with -/

theorem bar_ne_recv (a b : Dev nD) (k : Fin 4) : barCell a ≠ recvCell b k := fun h => by
  have := kcell_injective (show kcell (a, none) = kcell (b, some (true, k)) from h); cases this
theorem bar_eq_iff {a b : Dev nD} : barCell a = barCell b ↔ a = b :=
  ⟨fun h => congrArg Prod.fst (kcell_injective (show kcell (a, none) = kcell (b, none) from h)), fun h => h ▸ rfl⟩
theorem recv_eq_iff {a b : Dev nD} {k l : Fin 4} : recvCell a k = recvCell b l ↔ a = b ∧ k = l :=
  ⟨fun h => by have := kcell_injective (show kcell (a, some (true, k)) = kcell (b, some (true, l)) from h); cases this; exact ⟨rfl, rfl⟩,
    fun ⟨h, h'⟩ => by rw [h, h']⟩

/-- Device `d` owes device `c`'s barrier a unit if they are a pair. -/
theorem owed_bar (d c : Dev nD) : O₀ sw d (barCell c) () = if d = peer c then 1 else 0 := by
  have h0 : owed sw d (barCell c) () = 0 := Nat.eq_zero_of_not_pos fun h => by
    obtain ⟨k, hk⟩ := owed_pos sw h; exact bar_ne_recv _ _ _ hk
  unfold O₀
  rw [Pi.add_apply, Finsupp.add_apply, h0, Nat.zero_add, tallyAt_apply]
  refine if_congr ⟨fun h => ?_, fun h => ⟨?_, rfl⟩⟩ rfl rfl
  · rw [bar_eq_iff.mp h.1, peer_peer]
  · rw [h, peer_peer]

/-- In an exchange it owes each of its receive semaphores a chunk's credit if they are a pair. -/
theorem owed_recv (d c : Dev nD) (k : Fin 4) : O₀ true d (recvCell c k) () = if d = peer c then N else 0 := by
  show ((((0 + tallyAt (recvCell (peer d) 3) () N) + tallyAt (recvCell (peer d) 2) () N) + tallyAt (recvCell (peer d) 1) () N) + tallyAt (recvCell (peer d) 0) () N
    + tallyAt (barCell (peer d)) () 1 : CellTallies nD τ sig Unit) (recvCell c k) () = _
  simp only [Pi.add_apply, Finsupp.add_apply, tallyAt_apply, recv_eq_iff, (bar_ne_recv _ _ _).symm, Pi.zero_apply, Finsupp.coe_zero]
  by_cases h : d = peer c
  · subst h; rw [peer_peer]; fin_cases k <;> simp
  · have h' : c ≠ peer d := fun e => h (by rw [e, peer_peer])
    simp [h, h']

theorem launch_bar (c : Dev nD) :
    tallyOn (barCell c) (launchCredit (Pipeline.owing (O₀ sw)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar sw d c,
    Finset.sum_ite_eq' Finset.univ (peer c) fun _ => 1, if_pos (Finset.mem_univ _)]

theorem launch_recv (c : Dev nD) (k : Fin 4) :
    tallyOn (recvCell c k) (launchCredit (Pipeline.owing (O₀ true)) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (peer c) fun _ => N, if_pos (Finset.mem_univ _)]

/-- A device's receive semaphores, as semaphores. -/
def recvSems : Fin 4 ↪ SemLoc sig := ⟨fun k => .dma (recvS k), fun _ _ h => by
  have := csem_injective (show csem (some (true, _)) = csem (some (true, _)) from h); cases this; rfl⟩

omit [FloatOps F] in
theorem creds (c : Dev nD) : (Pipeline.launchCred (O₀ sw) c : sProp 𝕄) ⊢ iprop(cred (tallyAt (barCell c) () 1) ∗ recvCreds sw c) := by
  unfold Pipeline.launchCred recvCreds
  rw [bigSep_univ_at _ (SemLoc.reg barS), launch_bar]
  refine sep_mono_right ?_
  cases sw with
  | false => rw [if_neg Bool.false_ne_true]; iintro -; iempintro
  | true =>
    rw [if_pos rfl]
    refine BI.Entails.trans (bigSep_subset (t := Finset.univ.map recvSems) fun s hs => ?_) ?_
    · obtain ⟨k, -, rfl⟩ := Finset.mem_map.mp hs
      exact Finset.mem_erase.mpr ⟨fun h => bar_ne_recv c c k (congrArg (Prod.mk (c : Thread nD τ)) h).symm, Finset.mem_univ _⟩
    · rw [bigSep_map]
      exact bigSep_mono fun k _ => Entails.of_eq (congrArg cred (launch_recv c k))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (O₀ sw) c ∗ prngReg c (ρ c) ∗ G' m ρ sw c)
      ⊢ |={Set.univ}=> iprop(start m ρ sw c ∗ emp) := by
  iintro ⟨-, Hlev, Hcr, -, HG⟩
  ihave Hc := (creds (F := F) sw c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ sw c ∗ Pipeline.prefHeld Pipeline.Prefetch.none c (fun _ => fullShare.right) (fun k => k.elim0) ∗ Pipeline.scopedRest cfg0.spec c)
      ⊢ (dats m ρ sw 0 c).Φ 0 := by
  rw [show (dats m ρ sw 0 c).Φ 0 = Φ₀ m ρ sw c from rfl, scopedRest0_eq]
  unfold Φ₀ some_
  iintro ⟨Hs, -, Hr⟩
  isplitl [Hs]; · iexact Hs
  iexact Hr

theorem phi1_exit (c : Dev nD) :
    (dats m ρ sw 0 c).Φ (Fin.last cfg0.N) ⊢ iprop(unscopedSems0 c ∗ Pipeline.ownSems0 osem c ∗ Pipeline.scopedRest cfg0.spec c) := by
  rw [show (dats m ρ sw 0 c).Φ (Fin.last cfg0.N) = Φ₁ (F := F) c from rfl, scopedRest0_eq]
  unfold Φ₁ some_
  rw [sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ sw) () 0 c :=
  Pipeline.cellsWaits_intro cfgs (dats m ρ sw) () 0 c fun w s t =>
    mayWait_stage sw c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ sw 0 c).arrAt w cfg0.N

set_option maxRecDepth 8000 in
/-- Every fair execution ends, each device's arrays as computed and every semaphore at zero. -/
theorem run_arrays (hpre : PreOK m sw) : θ_run defs (onTc (τ := τ) (main (F := F))) (s₀ m ρ)
    (fun r => (∀ c : Dev nD, ∀ w : Fin cfg0.W, r.2.mem ((cfg0.win w).arr.view.loc (c : Thread nD τ)) = finalA m ρ sw c w) ∧ r.2.sem = fun _ => 0) :=
  Pipeline.θ_run_region_owing_glob_pf (fun p => (cfgs p).toPCfg) (fun p => (cfgs p).toPCfg_adm) (dats m ρ sw) () cellOf_inj (0 : Fin 1)
    winFacts0.to₀ ownSemFacts (Pipeline.PreFacts.none _) EP defs₀ 𝒱₀ m ρ main
    (hmain := fun _ => rfl)
    (hbody := body_obligation m ρ sw hpre) (hne := fun w => by fin_cases w <;> exact Nat.succ_pos _) (harr := arr_whole0) (hstage := stage_whole0) (hshare := share_eq m ρ sw)
    (hdistinct := winFacts0.arr_inj)
    (O₀ := O₀ sw) (howed₀ := fun _ => rfl) (howedN := fun _ => rfl)
    (L := L) (lv := lv) (hL := L_of_ne) (hwaits := waits m ρ sw)
    (G := G m ρ sw) (G' := G' m ρ sw) (u₀ := u₀)
    (hu₀ := by
      unfold u₀
      iintro Hu
      ihave H := (ownU_pair _ _) $$ Hu
      icases H with ⟨HP, HX⟩
      imod (fund m ρ sw) $$ HX with HG
      imodintro
      isplitl [HP] <;> iassumption)
    (hglob := glob m ρ sw)
    (hA := fun _ _ => rfl) (hpf := fun _ k => k.elim0)
    (X := start m ρ sw) (Y := fun c => unscopedSems0 c) (Z := fun _ => iprop(emp))
    (hX := start_intro m ρ sw) (hin := phi0_intro m ρ sw) (hout := phi1_exit m ρ sw)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Arrays.lean ====
/-
# The arrays after the run

The two arguments are what they were, and the result is, on every device, the other device's block rounded to bfloat16
and back, or its own block.
-/
module

public import proofs.«01_k».proof.Proof.Launch
public import Idealize.ShloMosaic.Lib.Pipeline.ValueKit

@[expose] public section

noncomputable section

namespace Cert.Exchange

open Cert.KernelIdeal Cert.KernelIdeal.Gen

open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg) (sw : Bool)

theorem finalA_pi (c : Dev nD) : finalA m ρ sw c (0 : Fin 3) = m ((c : Thread nD τ).loc main_arg1) :=
  (dats (F := F) m ρ sw 0 c).arrAt_in (0 : Fin 3) rfl _
theorem finalA_x (c : Dev nD) : finalA m ρ sw c (1 : Fin 3) = m ((c : Thread nD τ).loc main_arg0) :=
  (dats (F := F) m ρ sw 0 c).arrAt_in (1 : Fin 3) rfl _
theorem finalA_out (c : Dev nD) : finalA m ρ sw c (2 : Fin 3) = outAt m ρ sw c :=
  (dats (F := F) m ρ sw 0 c).arrAt_eq_of_after_last (2 : Fin 3) t0_0 (by decide +kernel) (outAt m ρ sw c) fun _ => rfl

/-- Every fair execution ends, the arguments unchanged, the result as said and every semaphore at zero. -/
theorem run_main (hpre : PreOK m sw) : θ_run defs (onTc (τ := τ) (main (F := F))) (s₀ m ρ) fun r =>
    (∀ c : Dev nD, r.2.mem ((c : Thread nD τ).loc main_v1) = outAt m ρ sw c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => ⟨(h.1 c (2 : Fin 3)).trans (finalA_out m ρ sw c),
    (h.1 c (1 : Fin 3)).trans (finalA_x m ρ sw c), (h.1 c (0 : Fin 3)).trans (finalA_pi m ρ sw c)⟩, h.2⟩) (run_arrays m ρ sw hpre)

/-- The block staged on a device is the block of its array. -/
theorem xstg_eq (c : Dev nD) : xstg m ρ c = m ((c : Thread nD τ).loc main_arg0) := by
  funext i
  show m ((c : Thread nD τ).loc main_arg0) _ = _
  refine congrArg _ (funext fun a => Fin.ext ?_)
  blk_simp
  have h0 : ∀ a : Fin 3, win0_1.index (0 : Fin 1) a * win0_1.size a = 0 := by decide
  exact (congrArg (· + (i a).val) (h0 a)).trans (Nat.zero_add _)

end Cert.Exchange

end
-- ==== Proof.Permutation.lean ====
/-
# The permutation the preconditions name

Each of the two preconditions compares the two entries of a device's copy of the permutation with constants: when it
holds, the copy is the exchange of the two positions, or the identity.
-/
module

public import proofs.«01_k».proof.Defs
public import proofs.«01_k».proof.Proof.Cells
public import proofs.«01_k».proof.Proof.Gen.Pre_swaps_Kernel
public import proofs.«01_k».proof.Proof.Gen.Pre_stays_Kernel

@[expose] public section

noncomputable section

namespace Cert.Exchange

open Cert.KernelIdeal
open Idealize.ShloMosaic
open Idealize.ShloMosaic.TcCoe

variable {F : FTy → Type} [FloatOps F]

/-- The permutation that exchanges the two positions (`sw = true`) or keeps them. -/
def table (sw : Bool) : IVec (⟨1, ![2]⟩ : Shape) 32 := fun k => entry sw (k 0).val

/-- The index of position `n`. -/
def at_ (n : Fin 2) : (⟨1, ![2]⟩ : Shape).Idx := fun a => ⟨n.val, by fin_cases a; exact n.isLt⟩

/-- Two comparisons that hold together are two equations. -/
theorem both_eq {a b u v : BitVec 32} (h : IntOp.andi (IntOp.cmpi .eq a u) (IntOp.cmpi .eq b v) = 1#1) : a = u ∧ b = v := by
  have key : ∀ p q : Bool, IntOp.andi (BitVec.ofBool p) (BitVec.ofBool q) = 1#1 → p = true ∧ q = true := by decide
  exact (key _ _ h).imp eq_of_beq eq_of_beq

/-- A permutation with the two entries of `table sw` is `table sw`. -/
theorem eq_table {sw : Bool} {pi : IVec (⟨1, ![2]⟩ : Shape) 32} (h : pi (at_ 0) = entry sw 0 ∧ pi (at_ 1) = entry sw 1) :
    pi = table sw := by
  have hall : ∀ n : Fin 2, pi (at_ n) = entry sw n.val := fun n => by
    fin_cases n
    · exact h.1
    · exact h.2
  funext k
  have hk : k = at_ (k 0) := funext fun a => by fin_cases a; rfl
  rw [hk]
  exact hall (k 0)

/-- The precondition of the exchange gives the exchange. -/
theorem eq_table_of_swaps {x : FVec F S1x512x512 .f32} {pi : IVec S2 32} (h : Cert.Pre_swaps_Kernel.fn (F := F) x pi = fun _ => 1#1) :
    pi = table true := by
  have e := both_eq (congrFun h fun a => a.elim0)
  refine eq_table ⟨Eq.trans (congrArg pi (funext fun a => ?_)) e.1, Eq.trans (congrArg pi (funext fun a => ?_)) e.2⟩ <;> fin_cases a <;> rfl

/-- The precondition of the identity gives the identity. -/
theorem eq_table_of_stays {x : FVec F S1x512x512 .f32} {pi : IVec S2 32} (h : Cert.Pre_stays_Kernel.fn (F := F) x pi = fun _ => 1#1) :
    pi = table false := by
  have e := both_eq (congrFun h fun a => a.elim0)
  refine eq_table ⟨Eq.trans (congrArg pi (funext fun a => ?_)) e.1, Eq.trans (congrArg pi (funext fun a => ?_)) e.2⟩ <;> fin_cases a <;> rfl

/-- The permutation on every device gives what the run asks for. -/
theorem preOK_of {m : (ℓ : Loc nD τ sig) → Buf (Elt F) ℓ} {sw : Bool} (h : ∀ c : Dev nD, piOf m c = table sw) : PreOK m sw := fun c =>
  (congrFun (h c) (pos c)).trans (congrArg (entry sw) (by revert c; decide))

end Cert.Exchange

end
-- ==== Proof.Reference.lean ====
/-
# The reference's run

The reference sorts the permutation carrying the positions, and takes the rows of `x` at the sorted positions. For the
two permutations of two positions the sorted positions are the permutation itself: the result is `x` with its two halves
exchanged, or `x`.
-/
module

public import proofs.«01_k».proof.Proof.Gen.ReferenceIdeal.Run
public import proofs.«01_k».proof.Proof.Permutation
public import Idealize.ShloMosaic.Lib.Quiescent

@[expose] public section

noncomputable section

namespace Cert.Reference

open Cert.ReferenceIdeal Cert.ReferenceIdeal.Gen
open Cert.Exchange (table)
open Idealize.ShloMosaic
open Idealize.ShloMosaic.TcCoe
open Idealize.SL.Sem

variable {F : FTy → Type} [FloatOps F]

/-- The positions in the order of their entries. -/
def order (pi : IVec S2 32) : IVec S2 32 := (Host.sort2 S2 0 comparator_i32_i32_d0 pi (iotaInDim S2 32 0)).2

/-- The column of rows the reference takes: the positions, a negative one counted from the end. -/
def rows (pi : IVec S2 32) : IVec S2x1 32 :=
  broadcastInDim S2x1 ![0] bcast_S2_S2x1_0
    (select (cmpi .slt (order pi) (broadcastInDim S2 ![] bcast_S_S2 (constantI S_ 32 0#32)))
      (addi (order pi) (broadcastInDim S2 ![] bcast_S_S2 (constantI S_ 32 2#32))) (order pi))

/-- The reference's result. -/
def out (x : FVec F S2x512x512 .f32) (pi : IVec S2 32) : FVec F S2x512x512 .f32 :=
  Host.gather gather_S2x512x512_S2x1_S2x512x512_12_0_n_n_0_1_1512512 x (rows pi)

/-- The row taken at position `k` for the two permutations. -/
theorem rows_table (sw : Bool) (k : S2x1.Idx) : min (rows (table sw) k).toInt.toNat 1 = if sw then 1 - (k 0).val else (k 0).val := by
  revert sw k
  decide

/-- Index `i` in the other half of the array (`sw = true`), or in its own. -/
def from_ (sw : Bool) (i : S2x512x512.Idx) : S2x512x512.Idx :=
  Function.update i 0 (if sw then Fin.rev (i 0) else i 0)

/-- The dimension numbers of the take of rows. -/
abbrev take : GatherDims S2x512x512 S2x1 S2x512x512 := gather_S2x512x512_S2x1_S2x512x512_12_0_n_n_0_1_1512512

/-- Off the rows' axis the take keeps the coordinate. -/
theorem coord_kept (idx : IVec S2x1 32) (i : S2x512x512.Idx) (a : Fin 3) (ha : a ≠ 0) : (take.operandIdx i idx a).val = (i a).val := by
  have hm : a ∉ take.startIndexMap := by revert a; decide
  have hk : a ∈ take.sKept := by revert a; decide
  simp only [GatherDims.operandIdx, GatherDims.start, dif_neg hm, take.batchCoord_eq_zero i a List.not_mem_nil,
    GatherDims.offCoord, dif_pos hk, Nat.zero_add]
  fin_cases a
  · exact absurd rfl ha
  · rfl
  · rfl

/-- On the rows' axis the take reads the column at the row, clamped into the array. -/
theorem coord_row (idx : IVec S2x1 32) (i : S2x512x512.Idx) : ∃ k : S2x1.Idx, (k 0).val = (i 0).val ∧
    (take.operandIdx i idx (0 : Fin 3)).val = min (idx k).toInt.toNat 1 := by
  have hm : (0 : Fin 3) ∈ take.startIndexMap := by decide
  have hk : (0 : Fin 3) ∉ take.sKept := by decide
  refine ⟨take.siIdx i ⟨take.startIndexMap.idxOf (0 : Fin 3), List.idxOf_lt_length_iff.2 hm⟩, rfl, ?_⟩
  simp only [GatherDims.operandIdx, GatherDims.start, dif_pos hm, take.batchCoord_eq_zero i (0 : Fin 3) List.not_mem_nil,
    take.offCoord_eq_zero i (0 : Fin 3) hk, Nat.add_zero]
  rfl

theorem out_table (sw : Bool) (x : FVec F S2x512x512 .f32) (i : S2x512x512.Idx) : out x (table sw) i = x (from_ sw i) := by
  refine congrArg x (funext fun a => Fin.ext ?_)
  by_cases ha : a = (0 : Fin 3)
  · subst ha
    obtain ⟨k, hk, e⟩ := coord_row (rows (table sw)) i
    refine e.trans ((rows_table sw k).trans ?_)
    rw [hk]
    cases sw
    · exact congrArg Fin.val (Function.update_self (0 : Fin 3) (i 0) i).symm
    · refine Eq.trans ?_ (congrArg Fin.val (Function.update_self (0 : Fin 3) (Fin.rev (i 0)) i).symm)
      have := (i 0).isLt
      simp only [if_true, Fin.val_rev]
      show 1 - (i 0).val = 2 - ((i 0).val + 1)
      omega
  · exact (coord_kept _ i a ha).trans (congrArg Fin.val (Function.update_of_ne ha _ i).symm)

/-- Every fair execution of the reference ends with its result at `out`, its arguments unchanged, its counters at zero. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v7) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨h, sem_eq_zero_of_no_sems (by decide) r.2⟩) (Value.run m ρ)

end Cert.Reference

end
-- ==== Proof.Bridge.lean ====
/-
# The kernel's result is the reference's

Over the extended reals the roundings are the identity, so that a device's result is the other device's block, or its
own; and the reference's result read at a device's block is the argument read at the same block.
-/
module

public import proofs.«01_k».proof.Proof.Arrays
public import proofs.«01_k».proof.Proof.Reference

@[expose] public section

noncomputable section

namespace Cert.Exchange

open Cert.KernelIdeal
open Idealize.ShloMosaic
open Idealize.ShloMosaic.TcCoe
open Idealize.SL.Sem

/-- One device's block of an array of the whole shape. -/
abbrev blockOf (c : Dev nD) (v : FVec Ideal (⟨3, ![2, 512, 512]⟩ : Shape) .f32) : FVec Ideal (⟨3, ![1, 512, 512]⟩ : Shape) .f32 :=
  Layout.blockN ⟨3, ![1, 512, 512]⟩ ⟨3, ![2, 512, 512]⟩ (Layout.meshBlock [2, 2, 2] ![[2], [], []] c) v

/-- The device whose block the result of device `c` is. -/
def source (sw : Bool) (c : Dev nD) : Dev nD := if sw then peer c else c

/-- A device's half, and its source's, of the array. -/
theorem half_source (sw : Bool) (c : Dev nD) :
    (if sw then 1 - Layout.meshLin [2, 2, 2] c.val [2] else Layout.meshLin [2, 2, 2] c.val [2])
      = Layout.meshLin [2, 2, 2] (source sw c).val [2] := by
  revert sw c
  decide

/-- A device's block of the reference's result is its source's block of the argument. -/
theorem block_out (sw : Bool) (c : Dev nD) (x : FVec Ideal (⟨3, ![2, 512, 512]⟩ : Shape) .f32) :
    blockOf c (Cert.Reference.out x (table sw)) = blockOf (source sw c) x := by
  funext i
  refine (Cert.Reference.out_table sw x _).trans (congrArg x (funext fun a => Fin.ext ?_))
  by_cases ha : a = (0 : Fin 3)
  · subst ha
    have hi : (i 0).val = 0 := Nat.lt_one_iff.1 (i 0).isLt
    have hs := half_source sw c
    cases sw
    · refine (congrArg Fin.val (Function.update_self (0 : Fin 3) _ _)).trans ?_
      rfl
    · refine (congrArg Fin.val (Function.update_self (0 : Fin 3) _ _)).trans ?_
      show 2 - (Layout.meshLin [2, 2, 2] c.val [2] * 1 + (i 0).val + 1) = Layout.meshLin [2, 2, 2] (source true c).val [2] * 1 + (i 0).val
      simp only [if_true] at hs
      omega
  · refine (congrArg Fin.val (Function.update_of_ne ha _ _)).trans ?_
    fin_cases a
    · exact absurd rfl ha
    · rfl
    · rfl

/-- Over the extended reals a device's result is its source's block. -/
theorem outAt_eq (m : (ℓ : Loc nD τ sig) → Buf (Elt Ideal) ℓ) (ρ : Dev nD → PrngReg) (sw : Bool) (c : Dev nD) :
    outAt m ρ sw c = m ((source sw c : Thread nD τ).loc main_arg0) := by
  cases sw
  · exact xstg_eq m ρ c
  · exact (show outAt m ρ true c = xstg m ρ (peer c) from rfl).trans (xstg_eq m ρ (peer c))

/-- The run read at the arguments and the counters. -/
theorem run_frame {F : FTy → Type} [FloatOps F] (m : (ℓ : Loc nD τ sig) → Buf (Elt F) ℓ) (ρ : Dev nD → PrngReg) (sw : Bool)
    (htab : ∀ c : Dev nD, piOf m c = table sw) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => (h.1 c).2, h.2⟩) (run_main m ρ sw (preOK_of htab))

/-- The two programs' runs, from memories that agree on arguments whose permutation is `table sw`. -/
theorem agree (sw : Bool) (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ)
    (g' : Dev Cert.ReferenceIdeal.nD → PrngReg) (htab : ∀ c : Dev nD, piOf m c = table sw)
    (hx : ∀ c : Dev nD, m ((c : Thread nD τ).loc main_arg0)
      = blockOf c (m' (((0 : Dev Cert.ReferenceIdeal.nD).tc : Thread Cert.ReferenceIdeal.nD Cert.ReferenceIdeal.τ).loc Cert.ReferenceIdeal.main_arg0)))
    (hpi : m ((((0 : Dev nD)) : Thread nD τ).loc main_arg1)
      = m' (((0 : Dev Cert.ReferenceIdeal.nD).tc : Thread Cert.ReferenceIdeal.nD Cert.ReferenceIdeal.τ).loc Cert.ReferenceIdeal.main_arg1)) :
    ∃ v : FVec Ideal (⟨3, ![2, 512, 512]⟩ : Shape) .f32,
      θ_run defs (onTc (τ := τ) (main (F := Ideal))) ⟨m, fun _ => 0, g⟩ (fun r => ∀ c : Dev nD,
        r.2.mem ((c : Thread nD τ).loc main_v1) = blockOf c v
        ∧ r.2.mem ((c : Thread nD τ).loc main_arg0) = m ((c : Thread nD τ).loc main_arg0)
        ∧ r.2.mem ((c : Thread nD τ).loc main_arg1) = m ((c : Thread nD τ).loc main_arg1))
      ∧ θ_run (Cert.ReferenceIdeal.defs (F := Ideal)) (onTc (τ := Cert.ReferenceIdeal.τ) (Cert.ReferenceIdeal.main (F := Ideal)))
        ⟨m', fun _ => 0, g'⟩ (fun r =>
        r.2.mem (((0 : Dev Cert.ReferenceIdeal.nD).tc : Thread Cert.ReferenceIdeal.nD Cert.ReferenceIdeal.τ).loc Cert.ReferenceIdeal.main_v7) = v
        ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1)
          = m' (((0 : Dev Cert.ReferenceIdeal.nD).tc : Thread Cert.ReferenceIdeal.nD Cert.ReferenceIdeal.τ).loc Cert.ReferenceIdeal.main_arg1)) := by
  refine ⟨Cert.Reference.out (m' (((0 : Dev Cert.ReferenceIdeal.nD).tc : Thread Cert.ReferenceIdeal.nD Cert.ReferenceIdeal.τ).loc
    Cert.ReferenceIdeal.main_arg0)) (table sw), ?_, ?_⟩
  · refine (θ_run defs _ _).mono (fun _ h c => ⟨(h.1 c).1.trans ?_, (h.1 c).2⟩) (run_main m g sw (preOK_of htab))
    exact (outAt_eq m g sw c).trans ((hx (source sw c)).trans (block_out sw c _).symm)
  · refine (θ_run Cert.ReferenceIdeal.defs _ _).mono (fun _ h => ⟨(h.1 0).1.trans ?_, (h.1 0).2⟩) (Cert.Reference.run_main m' g')
    exact congrArg (Cert.Reference.out _) (hpi.symm.trans (htab 0))

end Cert.Exchange

end
-- ==== Proof.SameText.lean ====
/-
# The kernel's text is the idealized kernel's

No operation of the kernel is rewritten, so that its body table is the idealized kernel's.
-/
module

public import proofs.«01_k».proof.Proof.Gen.Kernel
public import proofs.«01_k».proof.Proof.Gen.KernelIdeal

@[expose] public section

noncomputable section

namespace Cert.Exchange

open Idealize.ShloMosaic Cert.Kernel.Gen Cert.KernelIdeal.Gen

variable {F : FTy → Type} [FloatOps F]

/-- The bodies, label by label. -/
theorem bodies_same : Cert.Kernel.defs₀ (F := F) = Cert.KernelIdeal.defs₀ (F := F) :=
  congrArg Defs.onTc (funext fun ℓ => funext fun a => match ℓ, a with
    | 0, (_, _) => rfl
    | ⟨_ + 1, h⟩, _ => absurd h (Nat.not_lt.2 (Nat.le_add_left _ _)))

/-- The whole table. -/
theorem defs_same : Cert.Kernel.defs (F := F) = Cert.KernelIdeal.defs (F := F) :=
  congrArg (Pipeline.defs Cert.KernelIdeal.pcfgs) bodies_same

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal
public import proofs.«01_k».proof.Proof.Arrays
public import proofs.«01_k».proof.Proof.Reference
public import proofs.«01_k».proof.Proof.Bridge
public import proofs.«01_k».proof.Proof.SameText
public import Idealize.ShloMosaic.Adequacy
public import Idealize.ShloMosaic.Init

@[expose] public section

noncomputable section

namespace Cert.Proof

open Idealize.ShloMosaic Idealize.SL.Sem Cert.Exchange

/-- The kernel runs and ends at rest when the permutation is the exchange: its text is the idealized one's, whose run
    is stated for any float values. -/
theorem frame_swaps : Cert.quiescent_Kernel := fun m ρ h => by
  rw [defs_same]
  exact run_frame (F := Bits) m ρ true fun c => eq_table_of_swaps (h c)

/-- The same when the permutation is the identity. -/
theorem frame_stays : Cert.quiescent_Kernel_pre_stays_Kernel := fun m ρ h => by
  rw [defs_same]
  exact run_frame (F := Bits) m ρ false fun c => eq_table_of_stays (h c)

/-- The same of the idealized kernel, for the exchange. -/
theorem frame_swaps_ideal : Cert.quiescent_KernelIdeal := fun m ρ h =>
  run_frame (F := Ideal) m ρ true fun c => eq_table_of_swaps (h c)

/-- The same of the idealized kernel, for the identity. -/
theorem frame_stays_ideal : Cert.quiescent_KernelIdeal_pre_stays_Kernel := fun m ρ h =>
  run_frame (F := Ideal) m ρ false fun c => eq_table_of_stays (h c)

/-- The reference runs and ends at rest. -/
theorem frame_reference : Cert.quiescent_ReferenceIdeal := fun m ρ _ =>
  (θ_run Cert.ReferenceIdeal.defs _ _).mono (fun _ h => ⟨fun c => (h.1 c).2, h.2⟩) (Cert.Reference.run_main m ρ)

/-- The idealized kernel computes the reference when the permutation is the exchange. -/
theorem algebraic_swaps : Cert.algebraic_KernelIdeal_ReferenceIdeal := fun m g m' g' hpre hag =>
  agree true m g m' g' (fun c => eq_table_of_swaps (hpre c)) (fun c => (hag c).1) (hag 0).2

/-- The idealized kernel computes the reference when the permutation is the identity. -/
theorem algebraic_stays : Cert.algebraic_KernelIdeal_ReferenceIdeal_pre_stays_Kernel := fun m g m' g' hpre hag =>
  agree false m g m' g' (fun c => eq_table_of_stays (hpre c)) (fun c => (hag c).1) (hag 0).2

theorem claim : Cert.Claim := ⟨Cert.Kernel.Gen.facts, Cert.KernelIdeal.Gen.facts, Cert.ReferenceIdeal.Gen.facts, Cert.Pre_swaps_Kernel.Gen.facts, Cert.Pre_stays_Kernel.Gen.facts, Cert.Pre_swaps_ReferenceIdeal.Gen.facts, Cert.Pre_stays_ReferenceIdeal.Gen.facts,
  frame_swaps, frame_stays, frame_swaps_ideal, frame_stays_ideal, frame_reference, fun m ρ _ => frame_reference m ρ trivial,
  fun m ρ _ => frame_reference m ρ trivial, trivial, algebraic_swaps, algebraic_stays⟩

end Cert.Proof

end
